-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x2048x1024 .f32) (main_arg1 : FVec F S8x1024 .f32) (main_arg2 : FVec F S8x4096x1024 .f32) (main_arg3 : FVec F S8x4096 .f32) (main_arg4 : FVec F S8x1024x4096 .f32) (main_arg5 : FVec F S8x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S4096x1024 : Shape := ⟨2, ![4096, 1024]⟩
abbrev S4096x8 : Shape := ⟨2, ![4096, 8]⟩
abbrev S1x1 : Shape := ⟨2, ![1, 1]⟩
abbrev S256x1024 : Shape := ⟨2, ![256, 1024]⟩
abbrev S256x8 : Shape := ⟨2, ![256, 8]⟩
abbrev S1x8 : Shape := ⟨2, ![1, 8]⟩
abbrev S1024x8 : Shape := ⟨2, ![1024, 8]⟩
abbrev S256 : Shape := ⟨1, ![256]⟩
abbrev S256x1 : Shape := ⟨2, ![256, 1]⟩
abbrev S8 : Shape := ⟨1, ![8]⟩
abbrev S1 : Shape := ⟨1, ![1]⟩
abbrev S8x1x4096 : Shape := ⟨3, ![8, 1, 4096]⟩
abbrev S8x1x1024 : Shape := ⟨3, ![8, 1, 1024]⟩
abbrev S1x4096x1024 : Shape := ⟨3, ![1, 4096, 1024]⟩
abbrev S1x1x4096 : Shape := ⟨3, ![1, 1, 4096]⟩
abbrev S1x1024x4096 : Shape := ⟨3, ![1, 1024, 4096]⟩
abbrev S1x1x1024 : Shape := ⟨3, ![1, 1, 1024]⟩
abbrev S1024x4096 : Shape := ⟨2, ![1024, 4096]⟩
abbrev S256x4096 : Shape := ⟨2, ![256, 4096]⟩
abbrev S1x4096 : Shape := ⟨2, ![1, 4096]⟩
abbrev S1x1024 : Shape := ⟨2, ![1, 1024]⟩
abbrev S_ : Shape := ⟨0, ![]⟩

abbrev nBuf : Space → Nat
  | .hbm => 16
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S8x4096x1024, .f32⟩
  | .hbm, ⟨3, _⟩ => ⟨S8x4096, .f32⟩
  | .hbm, ⟨4, _⟩ => ⟨S8x1024x4096, .f32⟩
  | .hbm, ⟨5, _⟩ => ⟨S8x1024, .f32⟩
  | .hbm, ⟨6, _⟩ => ⟨S4096x1024, .f32⟩
  | .hbm, ⟨7, _⟩ => ⟨S4096x8, .f32⟩
  | .hbm, ⟨8, _⟩ => ⟨S1x1, .f32⟩
  | .hbm, ⟨9, _⟩ => ⟨S8x4096x1024, .bf16⟩
  | .hbm, ⟨10, _⟩ => ⟨S8x1024x4096, .bf16⟩
  | .hbm, ⟨11, _⟩ => ⟨S8x1x4096, .f32⟩
  | .hbm, ⟨12, _⟩ => ⟨S8x1x1024, .f32⟩
  | .hbm, ⟨13, _⟩ => ⟨S4096x1024, .f32⟩
  | .hbm, ⟨14, _⟩ => ⟨S2x2048x1024, .f32⟩
  | .hbm, ⟨15, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S256x8, .f32⟩
  | .local _ .vmem, ⟨4, _⟩ => ⟨S256x8, .f32⟩
  | .local _ .vmem, ⟨5, _⟩ => ⟨S1x1, .f32⟩
  | .local _ .vmem, ⟨6, _⟩ => ⟨S1x8, .f32⟩
  | .local _ .vmem, ⟨7, _⟩ => ⟨S256x8, .f32⟩
  | .local _ .vmem, ⟨8, _⟩ => ⟨S256x8, .f32⟩
  | .local _ .vmem, ⟨9, _⟩ => ⟨S256x1024, .f32⟩
  | .local _ .vmem, ⟨10, _⟩ => ⟨S256x1024, .f32⟩
  | .local _ .vmem, ⟨11, _⟩ => ⟨S1x4096x1024, .bf16⟩
  | .local _ .vmem, ⟨12, _⟩ => ⟨S1x4096x1024, .bf16⟩
  | .local _ .vmem, ⟨13, _⟩ => ⟨S1x1x4096, .f32⟩
  | .local _ .vmem, ⟨14, _⟩ => ⟨S1x1x4096, .f32⟩
  | .local _ .vmem, ⟨15, _⟩ => ⟨S1x1024x4096, .bf16⟩
  | .local _ .vmem, ⟨16, _⟩ => ⟨S1x1024x4096, .bf16⟩
  | .local _ .vmem, ⟨17, _⟩ => ⟨S1x1x1024, .f32⟩
  | .local _ .vmem, ⟨18, _⟩ => ⟨S1x1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v59 : BitVec 1 := Scalar.cmpi .eq arg0 c15_i32
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_26 : BitVec 32 := 0#32
  let v49 : BitVec 1 := Scalar.cmpi .ne v48 c0_i32_26
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S2x2048x1024 : Shape := ⟨3, ![2, 2048, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S4096x1024 : Shape := ⟨2, ![4096, 1024]⟩
abbrev S1024x8 : Shape := ⟨2, ![1024, 8]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S4096x8x4096 : Shape := ⟨3, ![4096, 8, 4096]⟩
abbrev S8x1x4096 : Shape := ⟨3, ![8, 1, 4096]⟩
abbrev S8x4096x4096 : Shape := ⟨3, ![8, 4096, 4096]⟩
abbrev S8x1x1024 : Shape := ⟨3, ![8, 1, 1024]⟩
abbrev S4096x2x1 : Shape := ⟨3, ![4096, 2, 1]⟩
abbrev S1x1x8 : Shape := ⟨3, ![1, 1, 8]⟩
abbrev S4096x2x8 : Shape := ⟨3, ![4096, 2, 8]⟩
abbrev S8 : Shape := ⟨1, ![8]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S8x4096x1024, .f32⟩
  | .hbm, ⟨3, _⟩ => ⟨S8x4096, .f32⟩
  | .hbm, ⟨4, _⟩ => ⟨S8x1024x4096, .f32⟩
  | .hbm, ⟨5, _⟩ => ⟨S8x1024, .f32⟩
  | .hbm, ⟨6, _⟩ => ⟨S4096x1024, .f32⟩
  | .hbm, ⟨7, _⟩ => ⟨S1024x8, .f32⟩
  | .hbm, ⟨8, _⟩ => ⟨S4096x8, .f32⟩
  | .hbm, ⟨9, _⟩ => ⟨S4096x2, .f32⟩
  | .hbm, ⟨10, _⟩ => ⟨S4096x2, .i32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x2, .f32⟩
  | .hbm, ⟨18, _⟩ => ⟨S4096x2, .f32⟩
  | .hbm, ⟨19, _⟩ => ⟨S4096x2, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x2, .f32⟩
  | .hbm, ⟨24, _⟩ => ⟨S4096x2, .f32⟩
  | .hbm, ⟨25, _⟩ => ⟨S8x1024x4096, .f32⟩
  | .hbm, ⟨26, _⟩ => ⟨S4096x8x4096, .f32⟩
  | .hbm, ⟨27, _⟩ => ⟨S8x1x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x1024, .f32⟩
  | .hbm, ⟨41, _⟩ => ⟨S8x4096x1024, .f32⟩
  | .hbm, ⟨42, _⟩ => ⟨S8x1x1024, .f32⟩
  | .hbm, ⟨43, _⟩ => ⟨S8x4096x1024, .f32⟩
  | .hbm, ⟨44, _⟩ => ⟨S8x4096x1024, .f32⟩
  | .hbm, ⟨45, _⟩ => ⟨S4096x2x1, .i32⟩
  | .hbm, ⟨46, _⟩ => ⟨S1x1x8, .i32⟩
  | .hbm, ⟨47, _⟩ => ⟨S4096x2x8, .i32⟩
  | .hbm, ⟨48, _⟩ => ⟨S4096x2x8, .i32⟩
  | .hbm, ⟨49, _⟩ => ⟨S4096x2x8, .i1⟩
  | .hbm, ⟨50, _⟩ => ⟨S4096x2x8, .f32⟩
  | .hbm, ⟨51, _⟩ => ⟨S4096x2x1, .f32⟩
  | .hbm, ⟨52, _⟩ => ⟨S4096x2x8, .f32⟩
  | .hbm, ⟨53, _⟩ => ⟨S4096x2x8, .f32⟩
  | .hbm, ⟨54, _⟩ => ⟨S_, .f32⟩
  | .hbm, ⟨55, _⟩ => ⟨S4096x8, .f32⟩
  | .hbm, ⟨56, _⟩ => ⟨S4096x1024, .f32⟩
  | .hbm, ⟨57, _⟩ => ⟨S2x2048x1024, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Proof.GateBody.lean ====
/-
  The gate kernel's body, run once at any grid coordinates over any staging buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The test of the gate body's first conditional: the point resets the running column sums. -/
abbrev gReset (i : grid0.Coords) : Prop :=
  (Scalar.cmpi .ne (Scalar.extui (Scalar.cmpi .eq (BitVec.ofNat 32 (i 0).val) 0#32)) 0#32) = 1#1
/-- The test of its second conditional: the point writes the loss. -/
abbrev gLast (i : grid0.Coords) : Prop := k0_cond2 i = 1#1

/-- The block of combine weights computed from a block of tokens and the gate's weights. -/
def gComb (x : Vec F S256x1024 .f32) (g : Vec F S8x1024 .f32) : FVec F S256x8 .f32 :=
  k0_pay1 (k0_pay10 x g) (k0_pay12 x g) (k0_pay13 x g)

/-- The running column sums after one more block. -/
def gSum (x : Vec F S256x1024 .f32) (g : Vec F S8x1024 .f32) (s : Vec F S1x8 .f32) : FVec F S1x8 .f32 :=
  k0_pay3 (k0_pay10 x g) (k0_pay12 x g) (k0_pay13 x g) s

/-- What the point starts its sum from: zero where it resets, else what the buffer held. -/
def gFrom (i : grid0.Coords) (s : Vec F S1x8 .f32) : Vec F S1x8 .f32 := if gReset i then k0_pay2 else s

/-- What the loss's buffer holds after the point. -/
def gLoss (i : grid0.Coords) (s : Vec F S1x8 .f32) (l : Vec F S1x1 .f32) : Vec F S1x1 .f32 :=
  if gLast i then k0_pay4 s else l

/-- A load of a whole buffer held at `x` reads `x`. -/
theorem load_whole {sp : Space} {t : Shape} {e : EltTy} {a : Memref sig .tc sp t e} (h : a.IsWhole) (x : t.Idx → Elt F e)
    {off : Fin t.rank → ℕ} (inb : ∀ k, off k + t.size k ≤ t.size k) :
    a.view.readAt (Elt F) (Rect.unit off t.size inb).toLoadRect (h.unread x) = x :=
  (View.readAt_full _ _ _).trans (h.read_unread x)

set_option maxHeartbeats 1600000 in
/-- The gate's body at any coordinates: from the two inputs, any contents of the weights' buffer, the
    loss's buffer at `l` and the sums' buffer at `s`, it ends with the inputs as they were, the combine
    weights, the loss and the sums at the values named above. -/
theorem gate_body (c : Dev nD) (i : grid0.Coords)
    (a1 : Memref sig .tc .vmem S256x1024 .f32) (h1 : a1.IsWhole) (a2 : Memref sig .tc .vmem S8x1024 .f32) (h2 : a2.IsWhole)
    (a3 : Memref sig .tc .vmem S256x8 .f32) (h3 : a3.IsWhole) (a4 : Memref sig .tc .vmem S1x1 .f32) (h4 : a4.IsWhole)
    (a5 : Memref sig .tc .vmem S1x8 .f32) (h5 : a5.IsWhole)
    (x : Vec F S256x1024 .f32) (g : Vec F S8x1024 .f32) (l : Vec F S1x1 .f32) (s : Vec F S1x8 .f32)
    (E : Set ℕ) (K : PUnit → sProp 𝕄) :
    iprop(owns (c : Thread nD τ) a1 fullShare x ∗ owns (c : Thread nD τ) a2 fullShare g
        ∗ (∃ d, owns (c : Thread nD τ) a3 fullShare d) ∗ owns (c : Thread nD τ) a4 fullShare l ∗ owns (c : Thread nD τ) a5 fullShare s
        ∗ (iprop(owns (c : Thread nD τ) a1 fullShare x ∗ owns (c : Thread nD τ) a2 fullShare g
            ∗ owns (c : Thread nD τ) a3 fullShare (gComb x g)
            ∗ owns (c : Thread nD τ) a4 fullShare (gLoss i (gSum x g (gFrom i s)) l)
            ∗ owns (c : Thread nD τ) a5 fullShare (gSum x g (gFrom i s))) -∗ K ⟨⟩))
      ⊢ wp frame (wpE (defs₀ (F := F)) Variants.none c none) E (cc0__gate_kernel i a1 h1 a2 h2 a3 h3 a4 h4 a5 h5) K := by
  by_cases hc0 : gReset i <;> by_cases hc1 : gLast i
  all_goals
    simp only [cc0__gate_kernel_eq_skeleton]; unfold cc0__gate_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := h1.eq_unread hf0; obtain rfl := h2.eq_unread hf1; obtain rfl := h4.eq_unread hf3; obtain rfl := h5.eq_unread hf4
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    have ex := load_whole h1 x (off := ![0, 0]) inb_S256x1024_S256x1024_0_0
    have eg := load_whole h2 g (off := ![0, 0]) inb_S8x1024_S8x1024_0_0
    isplitl [H2]
    · iexists _; isplitr; swap; · iexact H2
      ipureintro
      refine (View.read_writes_full a3.view _ _ _ _).trans ?_
      conv_rhs => rw [← ex, ← eg]
      rfl
    isplitl [H3]
    · iexists _; isplitr; swap; · iexact H3
      ipureintro
      first
        | exact (h4.read_unread l).trans (if_neg hc1).symm
        | refine ((View.read_writes_full a4.view _ _ _ _).trans ?_).trans (if_pos hc1).symm
          refine congrArg k0_pay4 ((View.readCov_full a5.view _ _ _ _).trans ?_)
          conv_rhs => rw [← ex, ← eg]
          refine congrArg (k0_pay3 _ _ _) ?_
          first
            | exact (View.readCov_full a5.view _ _ _ _).trans (if_pos hc0).symm
            | exact (load_whole h5 s _).trans (if_neg hc0).symm
    iexists _; isplitr; swap; · iexact H4
    ipureintro
    refine (View.read_writes_full a5.view _ _ _ _).trans ?_
    conv_rhs => rw [← ex, ← eg]
    refine congrArg (k0_pay3 _ _ _) ?_
    first
      | exact (View.readCov_full a5.view _ _ _ _).trans (if_pos hc0).symm
      | exact (load_whole h5 s _).trans (if_neg hc0).symm

end Cert.Moe

end
-- ==== Proof.GateData.lean ====
/-
  The gate call: what its arrays, staging buffers and accumulator hold at every grid point, from any contents of the
  unscoped buffers at entry, and the pipeline's obligation on its body.
-/
module

public import proofs.«01_k».proof.Proof.GateBody

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (W : Dev nD → Valuation τ sig (Elt F))

/-- The block of window `w` at point `t`, read off its array as the call finds it. -/
def gBlk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The accumulator before point `n`: each point adds its block's column sums, the first from zero. -/
def gAcc (c : Dev nD) : ℕ → Vec F S1x8 .f32
  | 0 => k0_pay2
  | n + 1 => if h : n < cfg0.N then
      gSum (gBlk W c 0 ⟨n, h⟩) (gBlk W c 1 ⟨n, h⟩) (gFrom (grid0.coords ⟨n, h⟩) (gAcc c n)) else gAcc c n

theorem gAcc_succ (c : Dev nD) (t : Fin cfg0.N) : gAcc W c (t.val + 1)
    = gSum (gBlk W c 0 t) (gBlk W c 1 t) (gFrom (grid0.coords t) (gAcc W c t.val)) := by
  rw [gAcc, dif_pos t.isLt]

/-- The first point resets; -/
theorem gReset_iff (t : Fin cfg0.N) : gReset (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [gReset, e0]
    word_cmp
   : ∀ t : Fin grid0.N, gReset (grid0.coords t) ↔ t.val = 0) t
/-- the last stores the loss. -/
theorem gLast_iff (t : Fin cfg0.N) : gLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [gLast, k0_cond2, e0]
    word_cmp
   : ∀ t : Fin grid0.N, gLast (grid0.coords t) ↔ t.val = 15) t

theorem gIdle3 : ∀ t : Fin cfg0.N, ¬gLast (grid0.coords t) → cfg0.idle 3 (grid0.coords t) = true := by decide +kernel
theorem gKeep3 : ∀ t : Fin cfg0.N, ¬gLast (grid0.coords t) → (cfg0.win 3).flush t = false := by decide +kernel
theorem gLive3 : ∀ t : Fin cfg0.N, gLast (grid0.coords t) → cfg0.idle 3 (grid0.coords t) = false := by decide +kernel

/-- The accumulator's buffer. -/
abbrev gScr : Memref sig .tc .vmem S1x8 .f32 := Memref.whole cc0_scratch0

/-- The scoped buffers the gate call neither stages through nor accumulates in. -/
abbrev gBut (c : Dev nD) : sProp 𝕄 :=
  Pipeline.scopedRestBut (Ix := Unit) (Name := ℕ) (U := UR sig nD τ) (Lvl := ℕ) (Val := Elt F) spec0 c [cc0_scratch0]

/-- The scoped buffers the call does not stage through: its accumulator, and the rest unopened. -/
theorem gRest_eq (c : Dev nD) :
    (Pipeline.scopedRest (Ix := Unit) (Name := ℕ) (U := UR sig nD τ) (Lvl := ℕ) (Val := Elt F) spec0 c : sProp 𝕄)
      = iprop((∃ d, owns (c : Thread nD τ) gScr fullShare d) ∗ gBut c) := by
  rw [Pipeline.scopedRest_split_of_list spec0 c [cc0_scratch0] (by decide) (by decide)]
  simp only [gScr, owns_whole]
  rfl

/-- Before point `n` the accumulator's buffer holds the accumulator, at anything before the first. -/
def gInv (c : Dev nD) (n : ℕ) : sProp 𝕄 :=
  iprop((∃ s, ⌜n ≠ 0 → s = gAcc W c n⌝ ∗ owns (c : Thread nD τ) gScr fullShare s) ∗ gBut c)

/-- The gate call's proof data: its arrays as the call finds them, each input's buffer at its block, the first output's
    at the block's combine weights, the second's (where it is stored) at the loss of the accumulator. -/
def gDat (c : Dev nD) : Dat τ (Elt F) Unit ℕ (UR sig nD τ) ℕ cfg0 c where
  A w := W c (Proc.devRef .tc (Pipeline.arrRef spec0 w))
  after w t := match w with
    | ⟨0, _⟩ => gBlk W c 0 t
    | ⟨1, _⟩ => gBlk W c 1 t
    | ⟨2, _⟩ => gComb (gBlk W c 0 t) (gBlk W c 1 t)
    | ⟨3, _⟩ => k0_pay4 (gAcc W c (t.val + 1))
  Φ t := gInv W c t.val
  q _ := fullShare
  owed _ := 0

theorem gDat_A (c : Dev nD) (w : Fin cfg0.W) : (gDat W c).A w = W c (Proc.devRef .tc (Pipeline.arrRef spec0 w)) := by
  dsimp only [gDat]
theorem gAfter0 (c : Dev nD) (t : Fin cfg0.N) : (gDat W c).after 0 t = gBlk W c 0 t := by dsimp only [gDat]
theorem gAfter1 (c : Dev nD) (t : Fin cfg0.N) : (gDat W c).after 1 t = gBlk W c 1 t := by dsimp only [gDat]
theorem gAfter2 (c : Dev nD) (t : Fin cfg0.N) : (gDat W c).after 2 t = gComb (gBlk W c 0 t) (gBlk W c 1 t) := by dsimp only [gDat]
theorem gAfter3 (c : Dev nD) (t : Fin cfg0.N) : (gDat W c).after 3 t = k0_pay4 (gAcc W c (t.val + 1)) := by dsimp only [gDat]

/-- Each input's staging buffer holds its block at every point. -/
theorem gBefore0 (c : Dev nD) (t : Fin cfg0.N) (d) : (gDat W c).before 0 t d = gBlk W c 0 t :=
  ((gDat W c).before_in_eq_fetched 0 rfl (fun _ => rfl) (fun _ _ _ => rfl)
    (fun t => by rw [gAfter0]; unfold Dat.blockOf gBlk; rw [gDat_A]; try rfl) t d).trans
    (by unfold Dat.fetched Dat.blockOf gBlk; rw [gDat_A]; try rfl)
theorem gBefore1 (c : Dev nD) (t : Fin cfg0.N) (d) : (gDat W c).before 1 t d = gBlk W c 1 t :=
  ((gDat W c).before_in_eq_fetched 1 rfl (fun _ => rfl) (fun _ _ _ => rfl)
    (fun t => by rw [gAfter1]; unfold Dat.blockOf gBlk; rw [gDat_A]; try rfl) t d).trans
    (by unfold Dat.fetched Dat.blockOf gBlk; rw [gDat_A]; try rfl)

/-- What the body is called with at point `t`, -/
def gPre (c : Dev nD) (t : Fin cfg0.N) : sProp 𝕄 :=
  iprop((gDat W c).Φ t.castSucc ∗ (gDat W c).owesAt () t.castSucc
    ∗ (∃ d, owns (c : Thread nD τ) (st0_0 t) fullShare ((gDat W c).before 0 t d))
    ∗ (∃ d, owns (c : Thread nD τ) (st0_1 t) fullShare ((gDat W c).before 1 t d))
    ∗ (∃ d, owns (c : Thread nD τ) (st0_2 t) fullShare ((gDat W c).before 2 t d))
    ∗ (∃ d, owns (c : Thread nD τ) (st0_3 t) fullShare ((gDat W c).before 3 t d)))
/-- and what it returns. -/
def gPost (c : Dev nD) (t : Fin cfg0.N) : sProp 𝕄 :=
  iprop((gDat W c).Φ t.succ ∗ (gDat W c).owesAt () t.succ
    ∗ (gDat W c).leavesExact 0 t ∗ (gDat W c).leavesExact 1 t ∗ (gDat W c).leavesExact 2 t ∗ (gDat W c).leavesExact 3 t)

/-- What a point leaves in the accumulator, whatever it found there before the first. -/
theorem gStep (c : Dev nD) (t : Fin cfg0.N) (s : Vec F S1x8 .f32) (hs : t.val ≠ 0 → s = gAcc W c t.val) :
    gSum (gBlk W c 0 t) (gBlk W c 1 t) (gFrom (grid0.coords t) s) = gAcc W c (t.val + 1) := by
  rw [gAcc_succ]
  by_cases h : t.val = 0
  · unfold gFrom; rw [if_pos ((gReset_iff t).mpr h), if_pos ((gReset_iff t).mpr h)]
  · rw [hs h]

set_option maxHeartbeats 1600000 in
/-- The body at any point runs from what the pipeline hands it to what the proof data states. -/
theorem gSound (c : Dev nD) (t : Fin cfg0.N) :
    gPre W c t ⊢ wp frame (wpE (defs₀ (F := F)) Variants.none c none) Set.univ (bodyAt0 t) (fun _ => gPost W c t) := by
  unfold gPre gPost bodyAt0
  simp only [gBefore0, gBefore1]
  rw [show (gDat W c).owesAt () t.succ = (gDat W c).owesAt () t.castSucc from rfl,
    show (gDat W c).Φ t.succ = gInv W c (t.val + 1) from rfl, show (gDat W c).Φ t.castSucc = gInv W c t.val from rfl]
  rw [show (gDat W c).leavesExact 0 t = owns (c : Thread nD τ) (st0_0 t) fullShare ((gDat W c).after 0 t) from rfl,
    show (gDat W c).leavesExact 1 t = owns (c : Thread nD τ) (st0_1 t) fullShare ((gDat W c).after 1 t) from rfl,
    show (gDat W c).leavesExact 2 t = owns (c : Thread nD τ) (st0_2 t) fullShare ((gDat W c).after 2 t) from rfl,
    gAfter0, gAfter1, gAfter2]
  unfold gInv
  iintro ⟨⟨⟨%s, %hs, HS⟩, HB⟩, Ho, ⟨%d0, H0⟩, ⟨%d1, H1⟩, ⟨%d2, H2⟩, ⟨%d3, H3⟩⟩
  iapply (gate_body c (grid0.coords t) _ _ _ _ _ _ _ _ _ (Memref.isWhole_whole _) (gBlk W c 0 t) (gBlk W c 1 t)
    ((gDat W c).before 3 t d3) s Set.univ _)
  isplitl [H0]; · iexact H0
  isplitl [H1]; · iexact H1
  isplitl [H2]; · iexists _; iexact H2
  isplitl [H3]; · iexact H3
  isplitl [HS]; · iexact HS
  rw [gStep W c t s hs]
  iintro ⟨H0, H1, H2, H3, HS⟩
  isplitl [HS HB]
  · isplitl [HS]
    · iexists _; isplitr; swap; · iexact HS
      ipureintro; exact fun _ => rfl
    iexact HB
  isplitl [Ho]; · iexact Ho
  isplitl [H0]; · iexact H0
  isplitl [H1]; · iexact H1
  isplitl [H2]; · iexact H2
  by_cases hl : gLast (grid0.coords t)
  · rw [show (gDat W c).leavesExact 3 t = owns (c : Thread nD τ) (st0_3 t) fullShare ((gDat W c).after 3 t) from by
      unfold Dat.leavesExact; rw [gLive3 t hl], gAfter3]
    unfold gLoss; rw [if_pos hl]
    iexact H3
  · rw [Dat.leavesExact_idle (gDat W c) 3 t (gIdle3 t hl) (gKeep3 t hl)]
    unfold gLoss; rw [if_neg hl]
    iexists _; iexact H3

/-- The pipeline's obligation on the gate body. -/
theorem gBody (c : Dev nD) : Pipeline.BodyObligation (gDat W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (gSound W c t) rfl .rfl fun _ => .rfl

/-- The scoped buffers give the invariant before the first point; -/
theorem gIn (c : Dev nD) : iprop(Pipeline.scopedRest spec0 c ∗ emp) ⊢ (gDat W c).Φ 0 := by
  rw [show (gDat W c).Φ 0 = gInv W c 0 from rfl, gRest_eq]; unfold gInv
  iintro ⟨⟨⟨%d, H⟩, HB⟩, -⟩
  isplitl [H]
  · iexists d; isplitr; swap; · iexact H
    ipureintro; exact fun h => absurd rfl h
  iexact HB
/-- the invariant after the last gives them back. -/
theorem gOut (c : Dev nD) : (gDat W c).Φ (Fin.last cfg0.N) ⊢ iprop(Pipeline.scopedRest spec0 c ∗ emp) := by
  rw [show (gDat W c).Φ (Fin.last cfg0.N) = gInv W c cfg0.N from rfl, gRest_eq]; unfold gInv
  iintro ⟨⟨%s, %hs, H⟩, HB⟩
  isplitl
  · isplitl [H]
    · iexists _; iexact H
    iexact HB
  iempintro

end Cert.Moe

end
-- ==== Proof.ExpertBody.lean ====
/-
  The expert kernel's body, run once at any grid coordinates over any staging buffers.
-/
module

public import proofs.«01_k».proof.Proof.GateBody

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The test of the expert body's first conditional: the point resets the accumulator. -/
abbrev eReset (i : grid1.Coords) : Prop :=
  (Scalar.cmpi .ne (Scalar.extui (Scalar.cmpi .eq (BitVec.ofNat 32 (i 1).val) 0#32)) 0#32) = 1#1
/-- The test of its second conditional: the point hands the accumulator to the output. -/
abbrev eLast (i : grid1.Coords) : Prop := k1_cond2 i = 1#1

/-- The accumulator after one more expert: what it held plus that expert's output, each row scaled by the
    expert's combine weight. -/
def eSum (i : grid1.Coords) (w : Vec F S256x8 .f32) (x : Vec F S256x1024 .f32) (p : Vec F S1x4096x1024 .bf16)
    (q : Vec F S1x1x4096 .f32) (r : Vec F S1x1024x4096 .bf16) (u : Vec F S1x1x1024 .f32) (s : Vec F S256x1024 .f32) :
    FVec F S256x1024 .f32 :=
  k1_pay2 (k1_pay3 x p q r u) (k1_pay4 i w) s

/-- What the point starts its sum from: zero where it resets, else what the buffer held. -/
def eFrom (i : grid1.Coords) (s : Vec F S256x1024 .f32) : Vec F S256x1024 .f32 := if eReset i then k1_pay1 else s

/-- What the output's buffer holds after the point. -/
def eOut (i : grid1.Coords) (s o : Vec F S256x1024 .f32) : Vec F S256x1024 .f32 := if eLast i then s else o

set_option maxHeartbeats 3200000 in
/-- The expert body at any coordinates: from the six inputs, the output's buffer at `o` and the accumulator
    at `s`, it ends with the inputs as they were, the output and the accumulator at the values named above. -/
theorem expert_body (c : Dev nD) (i : grid1.Coords)
    (a2 : Memref sig .tc .vmem S256x8 .f32) (h2 : a2.IsWhole) (a3 : Memref sig .tc .vmem S256x1024 .f32) (h3 : a3.IsWhole)
    (a4 : Memref sig .tc .vmem S1x4096x1024 .bf16) (h4 : a4.IsWhole) (a5 : Memref sig .tc .vmem S1x1x4096 .f32) (h5 : a5.IsWhole)
    (a6 : Memref sig .tc .vmem S1x1024x4096 .bf16) (h6 : a6.IsWhole) (a7 : Memref sig .tc .vmem S1x1x1024 .f32) (h7 : a7.IsWhole)
    (a8 : Memref sig .tc .vmem S256x1024 .f32) (h8 : a8.IsWhole) (a9 : Memref sig .tc .vmem S256x1024 .f32) (h9 : a9.IsWhole)
    (w : Vec F S256x8 .f32) (x : Vec F S256x1024 .f32) (p : Vec F S1x4096x1024 .bf16)
    (q : Vec F S1x1x4096 .f32) (r : Vec F S1x1024x4096 .bf16) (u : Vec F S1x1x1024 .f32) (o s : Vec F S256x1024 .f32)
    (E : Set ℕ) (K : PUnit → sProp 𝕄) :
    iprop(owns (c : Thread nD τ) a2 fullShare w ∗ owns (c : Thread nD τ) a3 fullShare x ∗ owns (c : Thread nD τ) a4 fullShare p
        ∗ owns (c : Thread nD τ) a5 fullShare q ∗ owns (c : Thread nD τ) a6 fullShare r ∗ owns (c : Thread nD τ) a7 fullShare u
        ∗ owns (c : Thread nD τ) a8 fullShare o ∗ owns (c : Thread nD τ) a9 fullShare s
        ∗ (iprop(owns (c : Thread nD τ) a2 fullShare w ∗ owns (c : Thread nD τ) a3 fullShare x ∗ owns (c : Thread nD τ) a4 fullShare p
            ∗ owns (c : Thread nD τ) a5 fullShare q ∗ owns (c : Thread nD τ) a6 fullShare r ∗ owns (c : Thread nD τ) a7 fullShare u
            ∗ owns (c : Thread nD τ) a8 fullShare (eOut i (eSum i w x p q r u (eFrom i s)) o)
            ∗ owns (c : Thread nD τ) a9 fullShare (eSum i w x p q r u (eFrom i s))) -∗ K ⟨⟩))
      ⊢ wp frame (wpE (defs₀ (F := F)) Variants.none c none) E
          (cc1__expert_kernel i a2 h2 a3 h3 a4 h4 a5 h5 a6 h6 a7 h7 a8 h8 a9 h9) K := by
  by_cases hc0 : eReset i <;> by_cases hc1 : eLast i
  all_goals
    simp only [cc1__expert_kernel_eq_skeleton]; unfold cc1__expert_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5
    obtain rfl := h6.eq_unread hf6; obtain rfl := h7.eq_unread hf7; obtain rfl := h8.eq_unread hf8; obtain rfl := h9.eq_unread hf9
    sl_exec (disch := first | sl_exact hc0 | sl_exact hc1)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    have ew := load_whole h2 w (off := ![0, 0]) inb_S256x8_S256x8_0_0
    have ex := load_whole h3 x (off := ![0, 0]) inb_S256x1024_S256x1024_0_0
    have ep := load_whole h4 p (off := ![0, 0, 0]) inb_S1x4096x1024_S1x4096x1024_0_0_0
    have eq := load_whole h5 q (off := ![0, 0, 0]) inb_S1x1x4096_S1x1x4096_0_0_0
    have er := load_whole h6 r (off := ![0, 0, 0]) inb_S1x1024x4096_S1x1024x4096_0_0_0
    have eu := load_whole h7 u (off := ![0, 0, 0]) inb_S1x1x1024_S1x1x1024_0_0_0
    isplitl [H8]
    · iexists _; isplitr; swap; · iexact H8
      ipureintro
      first
        | exact (h8.read_unread o).trans (if_neg hc1).symm
        | refine ((View.read_writes_full a8.view _ _ _ _).trans ?_).trans (if_pos hc1).symm
          refine (View.readCov_full a9.view _ _ _ _).trans ?_
          conv_rhs => rw [← ew, ← ex, ← ep, ← eq, ← er, ← eu]
          refine congrArg (k1_pay2 _ _) ?_
          first
            | exact (View.readCov_full a9.view _ _ _ _).trans (if_pos hc0).symm
            | exact (load_whole h9 s _).trans (if_neg hc0).symm
    iexists _; isplitr; swap; · iexact H9
    ipureintro
    refine (View.read_writes_full a9.view _ _ _ _).trans ?_
    conv_rhs => rw [← ew, ← ex, ← ep, ← eq, ← er, ← eu]
    refine congrArg (k1_pay2 _ _) ?_
    first
      | exact (View.readCov_full a9.view _ _ _ _).trans (if_pos hc0).symm
      | exact (load_whole h9 s _).trans (if_neg hc0).symm

end Cert.Moe

end
-- ==== Proof.ExpertData.lean ====
/-
  The expert call: what its arrays, staging buffers and accumulator hold at every grid point, from any contents of the
  unscoped buffers at entry, and the pipeline's obligation on its body.
-/
module

public import proofs.«01_k».proof.Proof.ExpertBody

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (W : Dev nD → Valuation τ sig (Elt F))

/-- The block of window `w` at point `t`, read off its array as the call finds it. -/
def eBlk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What point `t` makes of an accumulator at `s`. -/
def eAt (c : Dev nD) (t : Fin cfg1.N) (s : Vec F S256x1024 .f32) : Vec F S256x1024 .f32 :=
  eSum (grid1.coords t) (eBlk W c 0 t) (eBlk W c 1 t) (eBlk W c 2 t) (eBlk W c 3 t) (eBlk W c 4 t) (eBlk W c 5 t)
    (eFrom (grid1.coords t) s)

/-- The accumulator before point `n`: each point adds its expert's share, a block's first from zero. -/
def eAcc (c : Dev nD) : ℕ → Vec F S256x1024 .f32
  | 0 => k1_pay1
  | n + 1 => if h : n < cfg1.N then eAt W c ⟨n, h⟩ (eAcc c n) else eAcc c n

theorem eAcc_succ (c : Dev nD) (t : Fin cfg1.N) : eAcc W c (t.val + 1) = eAt W c t (eAcc W c t.val) := by
  rw [eAcc, dif_pos t.isLt]

/-- A block's first point resets; -/
theorem eReset_iff (t : Fin cfg1.N) : eReset (grid1.coords t) ↔ t.val % 8 = 0 :=
  (fun t => by
    have ht : t.val < 128 := Nat.lt_of_lt_of_eq t.isLt N_1
    have e0 : (grid1.coords t 1).val = t.val / 1 % 8 := Pipeline.Grid.coords_val t 1 (by decide) rfl
    simp only [eReset, e0]
    word_cmp
   : ∀ t : Fin grid1.N, eReset (grid1.coords t) ↔ t.val % 8 = 0) t
/-- its last stores the sum. -/
theorem eLast_iff (t : Fin cfg1.N) : eLast (grid1.coords t) ↔ t.val % 8 = 7 :=
  (fun t => by
    have ht : t.val < 128 := Nat.lt_of_lt_of_eq t.isLt N_1
    have e0 : (grid1.coords t 1).val = t.val / 1 % 8 := Pipeline.Grid.coords_val t 1 (by decide) rfl
    simp only [eLast, k1_cond2, e0]
    word_cmp
   : ∀ t : Fin grid1.N, eLast (grid1.coords t) ↔ t.val % 8 = 7) t

theorem eIdle6 : ∀ t : Fin cfg1.N, ¬eLast (grid1.coords t) → cfg1.idle 6 (grid1.coords t) = true := by decide +kernel
theorem eKeep6 (t : Fin cfg1.N) (h : ¬eLast (grid1.coords t)) : (cfg1.win 6).flush t = false :=
  Bool.eq_false_iff.mpr fun hf => h ((eLast_iff t).mpr ((flush1_6 t).mp hf))
theorem eLive6 : ∀ t : Fin cfg1.N, eLast (grid1.coords t) → cfg1.idle 6 (grid1.coords t) = false := by decide +kernel

/-- The accumulator's buffer. -/
abbrev eScr : Memref sig .tc .vmem S256x1024 .f32 := Memref.whole cc1_scratch0

/-- The scoped buffers the expert call neither stages through nor accumulates in. -/
abbrev eBut (c : Dev nD) : sProp 𝕄 :=
  Pipeline.scopedRestBut (Ix := Unit) (Name := ℕ) (U := UR sig nD τ) (Lvl := ℕ) (Val := Elt F) spec1 c [cc1_scratch0]

/-- The scoped buffers the call does not stage through: its accumulator, and the rest unopened. -/
theorem eRest_eq (c : Dev nD) :
    (Pipeline.scopedRest (Ix := Unit) (Name := ℕ) (U := UR sig nD τ) (Lvl := ℕ) (Val := Elt F) spec1 c : sProp 𝕄)
      = iprop((∃ d, owns (c : Thread nD τ) eScr fullShare d) ∗ eBut c) := by
  rw [Pipeline.scopedRest_split_of_list spec1 c [cc1_scratch0] (by decide) (by decide)]
  simp only [eScr, owns_whole]
  rfl

/-- Before point `n` the accumulator's buffer holds the accumulator, at anything before the first. -/
def eInv (c : Dev nD) (n : ℕ) : sProp 𝕄 :=
  iprop((∃ s, ⌜n ≠ 0 → s = eAcc W c n⌝ ∗ owns (c : Thread nD τ) eScr fullShare s) ∗ eBut c)

/-- The expert call's proof data: its arrays as the call finds them, each input's buffer at its block, the output's
    (where it is stored) at the accumulator. -/
def eDat (c : Dev nD) : Dat τ (Elt F) Unit ℕ (UR sig nD τ) ℕ cfg1 c where
  A w := W c (Proc.devRef .tc (Pipeline.arrRef spec1 w))
  after w t := match w with
    | ⟨0, _⟩ => eBlk W c 0 t
    | ⟨1, _⟩ => eBlk W c 1 t
    | ⟨2, _⟩ => eBlk W c 2 t
    | ⟨3, _⟩ => eBlk W c 3 t
    | ⟨4, _⟩ => eBlk W c 4 t
    | ⟨5, _⟩ => eBlk W c 5 t
    | ⟨6, _⟩ => eAcc W c (t.val + 1)
  Φ t := eInv W c t.val
  q _ := fullShare
  owed _ := 0

theorem eDat_A (c : Dev nD) (w : Fin cfg1.W) : (eDat W c).A w = W c (Proc.devRef .tc (Pipeline.arrRef spec1 w)) := by
  dsimp only [eDat]
theorem eAfter0 (c : Dev nD) (t : Fin cfg1.N) : (eDat W c).after 0 t = eBlk W c 0 t := by dsimp only [eDat]
theorem eAfter1 (c : Dev nD) (t : Fin cfg1.N) : (eDat W c).after 1 t = eBlk W c 1 t := by dsimp only [eDat]
theorem eAfter2 (c : Dev nD) (t : Fin cfg1.N) : (eDat W c).after 2 t = eBlk W c 2 t := by dsimp only [eDat]
theorem eAfter3 (c : Dev nD) (t : Fin cfg1.N) : (eDat W c).after 3 t = eBlk W c 3 t := by dsimp only [eDat]
theorem eAfter4 (c : Dev nD) (t : Fin cfg1.N) : (eDat W c).after 4 t = eBlk W c 4 t := by dsimp only [eDat]
theorem eAfter5 (c : Dev nD) (t : Fin cfg1.N) : (eDat W c).after 5 t = eBlk W c 5 t := by dsimp only [eDat]
theorem eAfter6 (c : Dev nD) (t : Fin cfg1.N) : (eDat W c).after 6 t = eAcc W c (t.val + 1) := by dsimp only [eDat]

/-! Each input's staging buffer holds its block at every point. -/
theorem eBefore0 (c : Dev nD) (t : Fin cfg1.N) (d) : (eDat W c).before 0 t d = eBlk W c 0 t :=
  ((eDat W c).before_in_eq_fetched 0 rfl (fun _ => rfl) (fun _ _ _ => rfl)
    (fun t => by rw [eAfter0]; unfold Dat.blockOf eBlk; rw [eDat_A]; try rfl) t d).trans
    (by unfold Dat.fetched Dat.blockOf eBlk; rw [eDat_A]; try rfl)
theorem eBefore1 (c : Dev nD) (t : Fin cfg1.N) (d) : (eDat W c).before 1 t d = eBlk W c 1 t :=
  ((eDat W c).before_in_eq_fetched 1 rfl (fun _ => rfl) (fun _ _ _ => rfl)
    (fun t => by rw [eAfter1]; unfold Dat.blockOf eBlk; rw [eDat_A]; try rfl) t d).trans
    (by unfold Dat.fetched Dat.blockOf eBlk; rw [eDat_A]; try rfl)
theorem eBefore2 (c : Dev nD) (t : Fin cfg1.N) (d) : (eDat W c).before 2 t d = eBlk W c 2 t :=
  ((eDat W c).before_in_eq_fetched 2 rfl (fun _ => rfl) (fun _ _ _ => rfl)
    (fun t => by rw [eAfter2]; unfold Dat.blockOf eBlk; rw [eDat_A]; try rfl) t d).trans
    (by unfold Dat.fetched Dat.blockOf eBlk; rw [eDat_A]; try rfl)
theorem eBefore3 (c : Dev nD) (t : Fin cfg1.N) (d) : (eDat W c).before 3 t d = eBlk W c 3 t :=
  ((eDat W c).before_in_eq_fetched 3 rfl (fun _ => rfl) (fun _ _ _ => rfl)
    (fun t => by rw [eAfter3]; unfold Dat.blockOf eBlk; rw [eDat_A]; try rfl) t d).trans
    (by unfold Dat.fetched Dat.blockOf eBlk; rw [eDat_A]; try rfl)
theorem eBefore4 (c : Dev nD) (t : Fin cfg1.N) (d) : (eDat W c).before 4 t d = eBlk W c 4 t :=
  ((eDat W c).before_in_eq_fetched 4 rfl (fun _ => rfl) (fun _ _ _ => rfl)
    (fun t => by rw [eAfter4]; unfold Dat.blockOf eBlk; rw [eDat_A]; try rfl) t d).trans
    (by unfold Dat.fetched Dat.blockOf eBlk; rw [eDat_A]; try rfl)
theorem eBefore5 (c : Dev nD) (t : Fin cfg1.N) (d) : (eDat W c).before 5 t d = eBlk W c 5 t :=
  ((eDat W c).before_in_eq_fetched 5 rfl (fun _ => rfl) (fun _ _ _ => rfl)
    (fun t => by rw [eAfter5]; unfold Dat.blockOf eBlk; rw [eDat_A]; try rfl) t d).trans
    (by unfold Dat.fetched Dat.blockOf eBlk; rw [eDat_A]; try rfl)

/-- What the body is called with at point `t`, -/
def ePre (c : Dev nD) (t : Fin cfg1.N) : sProp 𝕄 :=
  iprop((eDat W c).Φ t.castSucc ∗ (eDat W c).owesAt () t.castSucc
    ∗ (∃ d, owns (c : Thread nD τ) (st1_0 t) fullShare ((eDat W c).before 0 t d))
    ∗ (∃ d, owns (c : Thread nD τ) (st1_1 t) fullShare ((eDat W c).before 1 t d))
    ∗ (∃ d, owns (c : Thread nD τ) (st1_2 t) fullShare ((eDat W c).before 2 t d))
    ∗ (∃ d, owns (c : Thread nD τ) (st1_3 t) fullShare ((eDat W c).before 3 t d))
    ∗ (∃ d, owns (c : Thread nD τ) (st1_4 t) fullShare ((eDat W c).before 4 t d))
    ∗ (∃ d, owns (c : Thread nD τ) (st1_5 t) fullShare ((eDat W c).before 5 t d))
    ∗ (∃ d, owns (c : Thread nD τ) (st1_6 t) fullShare ((eDat W c).before 6 t d)))
/-- and what it returns. -/
def ePost (c : Dev nD) (t : Fin cfg1.N) : sProp 𝕄 :=
  iprop((eDat W c).Φ t.succ ∗ (eDat W c).owesAt () t.succ
    ∗ (eDat W c).leavesExact 0 t ∗ (eDat W c).leavesExact 1 t ∗ (eDat W c).leavesExact 2 t ∗ (eDat W c).leavesExact 3 t ∗ (eDat W c).leavesExact 4 t ∗ (eDat W c).leavesExact 5 t ∗ (eDat W c).leavesExact 6 t)

/-- What a point leaves in the accumulator, whatever it found there before the first. -/
theorem eStep (c : Dev nD) (t : Fin cfg1.N) (s : Vec F S256x1024 .f32) (hs : t.val ≠ 0 → s = eAcc W c t.val) :
    eAt W c t s = eAcc W c (t.val + 1) := by
  rw [eAcc_succ]
  by_cases h : t.val = 0
  · have hr : eReset (grid1.coords t) := (eReset_iff t).mpr (by rw [h])
    unfold eAt eFrom; rw [if_pos hr, if_pos hr]
  · rw [hs h]

set_option maxHeartbeats 1600000 in
/-- The body at any point runs from what the pipeline hands it to what the proof data states. -/
theorem eSound (c : Dev nD) (t : Fin cfg1.N) :
    ePre W c t ⊢ wp frame (wpE (defs₀ (F := F)) Variants.none c none) Set.univ (bodyAt1 t) (fun _ => ePost W c t) := by
  unfold ePre ePost bodyAt1
  simp only [eBefore0, eBefore1, eBefore2, eBefore3, eBefore4, eBefore5]
  rw [show (eDat W c).owesAt () t.succ = (eDat W c).owesAt () t.castSucc from rfl,
    show (eDat W c).Φ t.succ = eInv W c (t.val + 1) from rfl, show (eDat W c).Φ t.castSucc = eInv W c t.val from rfl]
  rw [show (eDat W c).leavesExact 0 t = owns (c : Thread nD τ) (st1_0 t) fullShare ((eDat W c).after 0 t) from rfl,
    show (eDat W c).leavesExact 1 t = owns (c : Thread nD τ) (st1_1 t) fullShare ((eDat W c).after 1 t) from rfl,
    show (eDat W c).leavesExact 2 t = owns (c : Thread nD τ) (st1_2 t) fullShare ((eDat W c).after 2 t) from rfl,
    show (eDat W c).leavesExact 3 t = owns (c : Thread nD τ) (st1_3 t) fullShare ((eDat W c).after 3 t) from rfl,
    show (eDat W c).leavesExact 4 t = owns (c : Thread nD τ) (st1_4 t) fullShare ((eDat W c).after 4 t) from rfl,
    show (eDat W c).leavesExact 5 t = owns (c : Thread nD τ) (st1_5 t) fullShare ((eDat W c).after 5 t) from rfl,
    eAfter0, eAfter1, eAfter2, eAfter3, eAfter4, eAfter5]
  unfold eInv
  iintro ⟨⟨⟨%s, %hs, HS⟩, HB⟩, Ho, ⟨%d0, H0⟩, ⟨%d1, H1⟩, ⟨%d2, H2⟩, ⟨%d3, H3⟩, ⟨%d4, H4⟩, ⟨%d5, H5⟩, ⟨%d6, H6⟩⟩
  iapply (expert_body c (grid1.coords t) _ _ _ _ _ _ _ _ _ _ _ _ _ _ _ (Memref.isWhole_whole _) (eBlk W c 0 t) (eBlk W c 1 t)
    (eBlk W c 2 t) (eBlk W c 3 t) (eBlk W c 4 t) (eBlk W c 5 t) ((eDat W c).before 6 t d6) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  rw [show eSum (grid1.coords t) (eBlk W c 0 t) (eBlk W c 1 t) (eBlk W c 2 t) (eBlk W c 3 t) (eBlk W c 4 t) (eBlk W c 5 t)
    (eFrom (grid1.coords t) s) = eAcc W c (t.val + 1) from eStep W c t s hs]
  iintro ⟨H0, H1, H2, H3, H4, H5, H6, HS⟩
  isplitl [HS HB]
  · isplitl [HS]
    · iexists _; isplitr; swap; · iexact HS
      ipureintro; exact fun _ => rfl
    iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases hl : eLast (grid1.coords t)
  · rw [show (eDat W c).leavesExact 6 t = owns (c : Thread nD τ) (st1_6 t) fullShare ((eDat W c).after 6 t) from by
      unfold Dat.leavesExact; rw [eLive6 t hl], eAfter6]
    unfold eOut; rw [if_pos hl]
    iexact H6
  · rw [Dat.leavesExact_idle (eDat W c) 6 t (eIdle6 t hl) (eKeep6 t hl)]
    unfold eOut; rw [if_neg hl]
    iexists _; iexact H6

/-- The pipeline's obligation on the expert body. -/
theorem eBody (c : Dev nD) : Pipeline.BodyObligation (eDat W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (eSound W c t) rfl .rfl fun _ => .rfl

/-- The scoped buffers give the invariant before the first point; -/
theorem eIn (c : Dev nD) : iprop(Pipeline.scopedRest spec1 c ∗ emp) ⊢ (eDat W c).Φ 0 := by
  rw [show (eDat W c).Φ 0 = eInv W c 0 from rfl, eRest_eq]; unfold eInv
  iintro ⟨⟨⟨%d, H⟩, HB⟩, -⟩
  isplitl [H]
  · iexists d; isplitr; swap; · iexact H
    ipureintro; exact fun h => absurd rfl h
  iexact HB
/-- the invariant after the last gives them back. -/
theorem eOutInv (c : Dev nD) : (eDat W c).Φ (Fin.last cfg1.N) ⊢ iprop(Pipeline.scopedRest spec1 c ∗ emp) := by
  rw [show (eDat W c).Φ (Fin.last cfg1.N) = eInv W c cfg1.N from rfl, eRest_eq]; unfold eInv
  iintro ⟨⟨%s, %hs, H⟩, HB⟩
  isplitl
  · isplitl [H]
    · iexists _; iexact H
    iexact HB
  iempintro

end Cert.Moe

end
-- ==== Proof.Run.lean ====
/-
  The whole run of @main: every weakly fair execution terminates with each unscoped buffer at the contents the
  two calls' proof data and the host operations between them give, and every semaphore counter at zero.
-/
module

public import proofs.«01_k».proof.Proof.GateData
public import proofs.«01_k».proof.Proof.ExpertData
public import proofs.«01_k».proof.Proof.Gen.KernelIdeal.Regions
public import Idealize.ShloMosaic.Lib.Pipeline.RegionArraysS

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the gate call leaves, -/
abbrev leftGate : Outs (F := F) := fun _ r c => Pipeline.afterRegion (gDat (V1 m) c) (V1 m c) (Proc.devRef .tc r)
/-- and what both calls leave, the expert call's buffers being item 4's. -/
def left : Outs (F := F) := fun k r c => match k with
  | 4 => Pipeline.afterRegion (eDat (V3 m (leftGate m)) c) (V3 m (leftGate m) c) (Proc.devRef .tc r)
  | _ => leftGate m k r c

/-- The two calls' proof data, each from the buffers it is entered with. -/
def mDats (p : Fin 2) (c : Dev nD) : Dat τ (Elt F) Unit ℕ (UR sig nD τ) ℕ (cfgs p) c := match p with
  | 0 => gDat (V1 m) c
  | 1 => eDat (V3 m (left m)) c

/-- A valuation changed at some references is the buffers a call leaves, given it agrees with them at every reference. -/
theorem held_of_refs (c : Dev nD) (V V' : Valuation τ sig (Elt F)) (h : ∀ r : Ref sig .tc, V (Proc.devRef .tc r) = V' (Proc.devRef .tc r)) :
    (StableHlo.held (c : Thread nD τ) (Pipeline.ucRefs τ sig) V : sProp 𝕄) = StableHlo.held (c : Thread nD τ) (Pipeline.ucRefs τ sig) V' :=
  StableHlo.held_congr (c : Thread nD τ) fun b hb => by
    obtain ⟨r, -, rfl⟩ := Finset.mem_map.mp (Finset.mem_filter.mp hb).1
    exact h r

/-- After the gate call the buffers are the generated valuation's. -/
theorem gLeft (c : Dev nD) (r : Ref sig .tc) :
    Pipeline.afterRegion (gDat (V1 m) c) (V1 m c) (Proc.devRef .tc r) = V2 m (left m) c (Proc.devRef .tc r) := by
  by_cases h1 : r = main_v1_1
  · subst h1; simp only [V2, Function.update_self, left]
  by_cases h0 : r = main_v1_0
  · subst h0
    simp only [V2, Function.update_of_ne (StableHlo.devRef_ne_of_ne h1 : (Proc.devRef .tc main_v1_0 : DevRef τ sig) ≠ Proc.devRef .tc main_v1_1),
      Function.update_self, left]
  rw [V2_of m (left m) c r (by simp [h0, h1])]
  exact Pipeline.afterRegion_keeps (gDat (V1 m) c) (V1 m c) winFacts0.arr_inj (gDat_A (V1 m) c) r (by
    intro w hw
    match w with
    | 0 => rfl
    | 1 => rfl
    | 2 => exact absurd hw.symm h0
    | 3 => exact absurd hw.symm h1)

/-- After the expert call the buffers are the generated valuation's. -/
theorem eLeft (c : Dev nD) (r : Ref sig .tc) :
    Pipeline.afterRegion (eDat (V3 m (left m)) c) (V3 m (left m) c) (Proc.devRef .tc r) = V4 m (left m) c (Proc.devRef .tc r) := by
  by_cases h0 : r = main_v6
  · subst h0
    simp only [V4, Function.update_self, left]
    rfl
  rw [V4_of m (left m) c r (by simp [h0])]
  exact Pipeline.afterRegion_keeps (eDat (V3 m (left m)) c) (V3 m (left m) c) winFacts1.arr_inj (eDat_A (V3 m (left m)) c) r (by
    intro w hw
    match w with
    | 0 => rfl
    | 1 => rfl
    | 2 => rfl
    | 3 => rfl
    | 4 => rfl
    | 5 => rfl
    | 6 => exact absurd hw.symm h0)

/-- The levels: one index, at every semaphore of a TensorCore. -/
abbrev mL : GSem nD τ sig → Finset Unit := fun g => if g.1.2 = .tc then {()} else ∅
abbrev mlv : GSem nD τ sig → Unit → ℕ := fun _ _ => 0

theorem mCut (p : Fin 2) : Pipeline.LevelCut (pcfgs (F := F)) adm () mL mlv p (fun _ : Dev nD => 0) (fun _ => 0) :=
  ⟨fun c w s => by rw [mL, if_pos rfl]; exact Finset.mem_singleton_self _, fun c w s => le_rfl, fun c g i h => absurd h (by simp)⟩

set_option backward.isDefEq.respectTransparency.types false in
/-- The gate call, entered with the unscoped buffers at `V1`. -/
def segGate : RegionSeg (pcfgs (F := F)) adm (mDats m) () defs₀ Variants.none mL mlv 0 :=
  RegionSeg.ofHeldIn (pcfgs (F := F)) adm (mDats m) () defs₀ Variants.none mL mlv 0 (fun _ => 0) (Pipeline.ucRefs τ sig)
    (fun _ => iprop(emp)) (fun _ => iprop(emp)) launch0.toP rfl (fun c => (gBody (V1 m) c).loose) (fun _ _ => rfl) (fun _ => rfl)
    (fun c => (gDat (V1 m) c).share_full fun _ => rfl) (fun c => gIn (V1 m) c) (fun c => gOut (V1 m) c) (fun _ => 0) (mCut 0)
    (fun _ => iprop(emp)) (V1 m) (fun _ _ => rfl)

set_option backward.isDefEq.respectTransparency.types false in
/-- The expert call, entered with the unscoped buffers at `V3`. -/
def segExpert : RegionSeg (pcfgs (F := F)) adm (mDats m) () defs₀ Variants.none mL mlv 1 :=
  RegionSeg.ofHeldIn (pcfgs (F := F)) adm (mDats m) () defs₀ Variants.none mL mlv 1 (fun _ => 0) (Pipeline.ucRefs τ sig)
    (fun _ => iprop(emp)) (fun _ => iprop(emp)) launch1.toP rfl (fun c => (eBody (V3 m (left m)) c).loose) (fun _ _ => rfl) (fun _ => rfl)
    (fun c => (eDat (V3 m (left m)) c).share_full fun _ => rfl) (fun c => eIn (V3 m (left m)) c) (fun c => eOutInv (V3 m (left m)) c) (fun _ => 0) (mCut 1)
    (fun _ => iprop(emp)) (V3 m (left m)) (fun _ _ => rfl)

/-- What a core carries beside its buffers: it owes nothing. -/
abbrev mRest (_ : Fin 3) (c : Dev nD) : sProp 𝕄 :=
  iprop((∃ Wd, owes (c : Thread nD τ) (0 : CellTallies nD τ sig Unit) Wd) ∗ emp ∗ emp)

theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

set_option backward.isDefEq.respectTransparency.types false in
theorem preGate (c : Dev nD) : iprop(StableHlo.held (c : Thread nD τ) (Pipeline.ucRefs τ sig) (V1 m c) ∗ mRest (F := F) 0 c) ⊢ (segGate m).pre c :=
  RegionSeg.ofHeldIn_pre (pcs := pcfgs (F := F)) (a := adm) (pdats := mDats m) (p := 0) (D := fun _ => 0) (S := Pipeline.ucRefs τ sig)
    (X := fun _ => iprop(emp)) (Y := fun _ => iprop(emp)) (R := fun _ => iprop(emp)) (W := V1 m) arrs0 c
set_option backward.isDefEq.respectTransparency.types false in
theorem postGate (c : Dev nD) : (segGate m).post c ⊢ iprop(StableHlo.held (c : Thread nD τ) (Pipeline.ucRefs τ sig) (V2 m (left m) c) ∗ mRest (F := F) 1 c) := by
  rw [← held_of_refs c _ _ (gLeft m c)]
  exact RegionSeg.ofHeldIn_post (pcs := pcfgs (F := F)) (a := adm) (pdats := mDats m) (p := 0) (D := fun _ => 0) (S := Pipeline.ucRefs τ sig) arrs0 c
set_option backward.isDefEq.respectTransparency.types false in
theorem preExpert (c : Dev nD) : iprop(StableHlo.held (c : Thread nD τ) (Pipeline.ucRefs τ sig) (V3 m (left m) c) ∗ mRest (F := F) 1 c) ⊢ (segExpert m).pre c :=
  RegionSeg.ofHeldIn_pre (pcs := pcfgs (F := F)) (a := adm) (pdats := mDats m) (p := 1) (D := fun _ => 0) (S := Pipeline.ucRefs τ sig)
    (X := fun _ => iprop(emp)) (Y := fun _ => iprop(emp)) (R := fun _ => iprop(emp)) (W := V3 m (left m)) arrs1 c
set_option backward.isDefEq.respectTransparency.types false in
theorem postExpert (c : Dev nD) : (segExpert m).post c ⊢ iprop(StableHlo.held (c : Thread nD τ) (Pipeline.ucRefs τ sig) (V4 m (left m) c) ∗ mRest (F := F) 2 c) := by
  rw [← held_of_refs c _ _ (eLeft m c)]
  exact RegionSeg.ofHeldIn_post (pcs := pcfgs (F := F)) (a := adm) (pdats := mDats m) (p := 1) (D := fun _ => 0) (S := Pipeline.ucRefs τ sig) arrs1 c

set_option maxHeartbeats 1600000 in
set_option backward.isDefEq.respectTransparency.types false in
/-- Every weakly fair execution of @main from memory `m` with zero counters terminates, each unscoped buffer ending at
    the contents `V5` and every semaphore counter at zero. -/
theorem run_main : θ_run defs (onTc (τ := τ) (main (F := F))) ⟨m, fun _ => 0, ρ⟩ (fun r =>
      (∀ (c : Dev nD) (b : Ref sig .tc), b.isScoped = false → r.2.mem ((c.tc : Thread nD τ).loc b) = V5 m (left m) c (Proc.devRef .tc b))
      ∧ r.2.sem = fun _ => 0) := by
  refine Pipeline.θ_run_regions_kit_dev_sems (pcfgs (F := F)) adm (mDats m) () cellOf_inj emb₁ defs₀ Variants.none mL mlv m ρ main
    (segs m (left m) Variants.none mL mlv mRest () (mDats m) (segGate m) (segExpert m))
    (fun c Q => by
      rewrite [main_chain c, Seg.run_eq_chain,
        show (segs m (left m) Variants.none mL mlv mRest () (mDats m) (segGate m) (segExpert m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun g h => if_neg h) (fun _ => iprop(emp)) _
    (by
      rw [ownU_emb₁]
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ mRest 0 c))
    (Tₙ := fun c => StableHlo.held (c : Thread nD τ) (Pipeline.ucRefs τ sig) (V5 m (left m) c))
    (hch := fun c => ⟨.rfl, preGate m c, postGate m c, preExpert m c, postExpert m c,
      sep_mono .rfl (by iintro ⟨H, -⟩; iexact H)⟩)
    (hinit := ?_)
    (QY := fun c s => ∀ b : Ref sig .tc, b.isScoped = false → s.mem ((c.tc : Thread nD τ).loc b) = V5 m (left m) c (Proc.devRef .tc b))
    (hfin := fun c s' => ?_) (hQ := fun _ h hz => ⟨h, funext fun g => hz g (.inr (regions_no_unscoped g.2))⟩)
  · refine Pipeline.initEach mL mlv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl
    · iexists ∅; iexact HO
    isplitr <;> iempintro
  · unfold StableHlo.held
    iintro ⟨Hh, HSI⟩
    ihave Hr := (pointsTo_read_all (Pipeline.ucRefs τ sig) (fun b => ((c : Thread nD τ).1, b)) (V5 m (left m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun e => by
        rw [show (Proc.devRef (τ := τ) .tc b).isScoped = b.isScoped from rfl, hb] at e; exact Bool.false_ne_true e⟩)
    · iexact HSI

/-- Each argument ends as launched and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c main_arg0 rfl).trans (V5_main_arg0 m (left m) c), (h.1 c main_arg1 rfl).trans (V5_main_arg1 m (left m) c),
      (h.1 c main_arg2 rfl).trans (V5_main_arg2 m (left m) c), (h.1 c main_arg3 rfl).trans (V5_main_arg3 m (left m) c),
      (h.1 c main_arg4 rfl).trans (V5_main_arg4 m (left m) c), (h.1 c main_arg5 rfl).trans (V5_main_arg5 m (left m) c)⟩, h.2⟩)
    (run_main m ρ)

end Cert.Moe

end
-- ==== Proof.GateValue.lean ====
/-
  What the gate call reads and what it leaves in its two output arrays, element by element.
-/
module

public import proofs.«01_k».proof.Proof.GateData
public import Idealize.ShloMosaic.Lib.Pointwise
public import Idealize.ShloMosaic.Lib.Pipeline.Value

@[expose] public section

set_option maxRecDepth 16384

noncomputable section

namespace Cert.Moe

open Cert.KernelIdeal Cert.KernelIdeal.Gen
open Idealize.ShloMosaic Idealize.ShloMosaic.TcCoe
open Idealize.SL.Sem
open Idealize.ShloMosaic.Pipeline (Dat)

variable {F : FTy → Type} [FloatOps F]
variable (W : Dev nD → Valuation τ sig (Elt F))

/-- Row `r` of the rows' block `t`. -/
abbrev rowAt (t : ℕ) (ht : t < 16) (r : Fin 256) : Fin 4096 := ⟨256 * t + r.val, by omega⟩

/-- Each window's block at a point: the rows' windows move with the point, the others stay. -/
theorem gIndex : ∀ t : Fin cfg0.N, win0_0.index t = ![t.val, 0] ∧ win0_2.index t = ![t.val, 0]
    ∧ win0_1.index t = ![0, 0] ∧ win0_3.index t = ![0, 0] :=
  (by decide +kernel : ∀ t : Fin grid0.N, _)
/-- The combine weights are written back at every point, -/
theorem gFlush2 : ∀ t : Fin cfg0.N, (cfg0.win 2).flush t = true := (by decide +kernel : ∀ t : Fin grid0.N, _)
/-- the loss at the last. -/
theorem gFlush3 : ∀ t : Fin cfg0.N, (cfg0.win 3).flush t = true ↔ t.val = 15 := (by decide +kernel : ∀ t : Fin grid0.N, _)

/-- The block of rows at point `t`. -/
theorem gBlk0_eq (c : Dev nD) (t : Fin cfg0.N) (ht : t.val < 16) (r : Fin 256) (q : Fin 1024) :
    (gBlk W c 0 t : Vec F S256x1024 .f32) (ix2 r q)
      = (W c (Proc.devRef .tc main_v0) : Vec F S4096x1024 .f32) (ix2 (rowAt t.val ht r) q) := by
  have h := (gIndex t).1
  refine congrArg (W c (Proc.devRef .tc main_v0) : Vec F S4096x1024 .f32) (funext fun a => Fin.ext ?_)
  match a with
  | ⟨0, _⟩ => show win0_0.index t (0 : Fin 2) * 256 + 1 * r.val = 256 * t.val + r.val; rw [h]; show t.val * 256 + _ = _; omega
  | ⟨1, _⟩ => show win0_0.index t (1 : Fin 2) * 1024 + 1 * q.val = q.val; rw [h]; show 0 * 1024 + _ = _; omega

/-- The gate's matrix is read whole at every point. -/
theorem gBlk1_eq (c : Dev nD) (t : Fin cfg0.N) :
    (gBlk W c 1 t : Vec F S8x1024 .f32) = (W c (Proc.devRef .tc main_arg1) : Vec F S8x1024 .f32) := by
  have h := (gIndex t).2.2.1
  funext y
  refine congrArg (W c (Proc.devRef .tc main_arg1) : Vec F S8x1024 .f32) (funext fun a => Fin.ext ?_)
  match a with
  | ⟨0, _⟩ => show win0_1.index t (0 : Fin 2) * 8 + 1 * (y 0).val = (y 0).val; rw [h]; show 0 * 8 + _ = _; omega
  | ⟨1, _⟩ => show win0_1.index t (1 : Fin 2) * 1024 + 1 * (y 1).val = (y 1).val; rw [h]; show 0 * 1024 + _ = _; omega

/-- The combine weights' array ends holding each block's combine weights. -/
theorem gFinal2 (c : Dev nD) (t : Fin cfg0.N) (ht : t.val < 16) (r : Fin 256) (k : Fin 8) :
    ((gDat W c).arrAt 2 cfg0.N : Vec F S4096x8 .f32) (ix2 (rowAt t.val ht r) k)
      = gComb (gBlk W c 0 t) (gBlk W c 1 t) (ix2 r k) := by
  have hb := (gDat W c).read_blk_arrAt_eq_flushed 2 (fun t t' _ _ hne => (cfg0.win 2).disjoint_blk fun h => hne (Fin.ext (by
    have e : win0_2.index t = win0_2.index t' := h
    rw [(gIndex t).2.1, (gIndex t').2.1] at e
    exact congrFun e 0))) cfg0.N t t.isLt (gFlush2 t)
  have hi := (gIndex t).2.1
  have hr := congrFun hb (ix2 r k : S256x8.Idx)
  rw [show (gDat W c).flushed 2 t = (cfg0.win 2).cut (grid0.coords t) ((gDat W c).after 2 t) from rfl, gAfter2] at hr
  refine Eq.trans (congrArg ((gDat W c).arrAt 2 cfg0.N : Vec F S4096x8 .f32) (funext fun a => Fin.ext ?_)) (hr.trans
    (congrArg (gComb (gBlk W c 0 t) (gBlk W c 1 t)) (funext fun a => Fin.ext ?_)))
  · match a with
    | ⟨0, _⟩ => show 256 * t.val + r.val = win0_2.index t (0 : Fin 2) * 256 + 1 * r.val; rw [hi]; show _ = t.val * 256 + _; omega
    | ⟨1, _⟩ => show k.val = win0_2.index t (1 : Fin 2) * 8 + 1 * k.val; rw [hi]; show _ = 0 * 8 + _; omega
  · match a with
    | ⟨0, _⟩ => rfl
    | ⟨1, _⟩ => rfl

/-- The loss's array ends holding the loss of the accumulator after the last point. -/
theorem gFinal3 (c : Dev nD) :
    ((gDat W c).arrAt 3 cfg0.N : Vec F S1x1 .f32) (ix2 0 0) = k0_pay4 (gAcc W c 16) (ix2 0 0) := by
  have h15 : 15 < cfg0.N := lt_of_lt_of_eq (by decide) N_0.symm
  have hb := (gDat W c).read_blk_arrAt_eq_flushed 3 (fun t t' hf hf' hne => absurd (Fin.ext (by
    rw [(gFlush3 t).mp hf, (gFlush3 t').mp hf'])) hne) cfg0.N ⟨15, h15⟩ h15 ((gFlush3 _).mpr rfl)
  have hi := (gIndex ⟨15, h15⟩).2.2.2
  have hr := congrFun hb (ix2 0 0 : S1x1.Idx)
  rw [show (gDat W c).flushed 3 ⟨15, h15⟩ = (cfg0.win 3).cut (grid0.coords ⟨15, h15⟩) ((gDat W c).after 3 ⟨15, h15⟩) from rfl, gAfter3] at hr
  refine (congrArg ((gDat W c).arrAt 3 cfg0.N : Vec F S1x1 .f32) (?_ : (ix2 0 0 : S1x1.Idx)
    = ((cfg0.win 3).blk ⟨15, h15⟩).view.emb (ix2 0 0 : S1x1.Idx))).trans (hr.trans
    (congrArg (k0_pay4 (gAcc W c 16)) (?_ : (cfg0.win 3).xinj (grid0.coords ⟨15, h15⟩) (ix2 0 0 : S1x1.Idx) = (ix2 0 0 : S1x1.Idx))))
  · funext a
    apply Fin.ext
    match a with
    | ⟨0, _⟩ => show 0 = win0_3.index ⟨15, h15⟩ (0 : Fin 2) * 1 + 1 * 0; rw [hi]; rfl
    | ⟨1, _⟩ => show 0 = win0_3.index ⟨15, h15⟩ (1 : Fin 2) * 1 + 1 * 0; rw [hi]; rfl
  · funext a
    apply Fin.ext
    match a with
    | ⟨0, _⟩ => rfl
    | ⟨1, _⟩ => rfl

end Cert.Moe

end
-- ==== Proof.Rank.lean ====
/-
  The two greatest of eight extended reals, ties to the lower index: what a stable sort puts in its first two places,
  and what a maximum followed by the least index that attains it finds.
-/
module

public import proofs.«01_k».proof.Proof.Gen.KernelIdeal
public import Idealize.ShloMosaic.Lib.SortFacts
public import Idealize.ShloMosaic.Lib.Pointwise
public import Idealize.ShloMosaic.PureOps.Ideal.Laws

@[expose] public section

noncomputable section

namespace Cert.Moe

open Idealize.ShloMosaic

variable {n : ℕ}

/-- Entry `i` comes before entry `k`: it is greater, or equal at a lower index. -/
def Leads (s : Fin n → EReal) (i k : Fin n) : Prop := s k < s i ∨ s k = s i ∧ i < k

/-- Entry `i` is the first: it comes before every other. -/
def IsFirst (s : Fin n → EReal) (i : Fin n) : Prop := ∀ k, k ≠ i → Leads s i k

/-- Entry `j` is the second: it comes before every other but `i`. -/
def IsSecond (s : Fin n → EReal) (i j : Fin n) : Prop := j ≠ i ∧ ∀ k, k ≠ i → k ≠ j → Leads s j k

/-- The first entry is the greatest. -/
theorem IsFirst.le {s : Fin n → EReal} {i : Fin n} (h : IsFirst s i) (k : Fin n) : s k ≤ s i := by
  by_cases e : k = i
  · rw [e]
  · rcases h k e with h | h
    · exact h.le
    · exact h.1.le

/-- An entry as great as the first has no lower index. -/
theorem IsFirst.index_le {s : Fin n → EReal} {i : Fin n} (h : IsFirst s i) (k : Fin n) (e : s k = s i) : i ≤ k := by
  by_cases hk : k = i
  · rw [hk]
  · rcases h k hk with h | h
    · exact absurd e h.ne
    · exact h.2.le

/-- With the first entry lowered to −∞, the second comes first, unless it is −∞ itself. -/
theorem IsSecond.isFirst_mask {s : Fin n → EReal} {i j : Fin n} (h : IsSecond s i j) (hj : s j ≠ ⊥) :
    IsFirst (fun k => if k = i then ⊥ else s k) j := by
  intro k hk
  unfold Leads
  simp only [if_neg h.1]
  by_cases e : k = i
  · rw [if_pos e]; exact .inl (bot_lt_iff_ne_bot.mpr hj)
  · rw [if_neg e]; exact h.2 k e hk

/-- The greatest entry, as a fold of maxima from −∞. -/
theorem IsFirst.fold_max {s : Fin n → EReal} {i : Fin n} (h : IsFirst s i) : Finset.univ.fold max ⊥ s = s i :=
  le_antisymm (Finset.fold_max_le _ |>.mpr ⟨bot_le, fun k _ => h.le k⟩)
    (Finset.le_fold_max _ |>.mpr (.inr ⟨i, Finset.mem_univ _, le_rfl⟩))

/-- The least index at which the greatest entry stands, as a signed fold of minima over index words, the other
    entries' words being 8. -/
theorem IsFirst.fold_min {s : Fin 8 → EReal} {i : Fin 8} (h : IsFirst s i) (f : Fin 8 → BitVec 32)
    (hf : ∀ k, f k = if s k = s i then BitVec.ofNat 32 k.val else 8#32) :
    Finset.univ.fold IntOp.minsi 2147483647#32 f = BitVec.ofNat 32 i.val := by
  have hw : ∀ k : Fin 8, (BitVec.ofNat 32 k.val).toInt = (k.val : ℤ) := by decide
  have hmin : ∀ a b : BitVec 32, (IntOp.minsi a b).toInt = min a.toInt b.toInt := by
    intro a b
    unfold IntOp.minsi
    simp only [BitVec.slt, decide_eq_true_eq]
    split <;> omega
  apply BitVec.eq_of_toInt_eq
  rw [← Finset.fold_hom (op' := min) (m := BitVec.toInt) hmin, hw]
  refine le_antisymm ?_ ?_
  · refine Finset.fold_min_le _ |>.mpr (.inr ⟨i, Finset.mem_univ _, ?_⟩)
    simp only [hf, if_pos rfl, ↓reduceIte, hw, le_refl]
  · refine Finset.le_fold_min _ |>.mpr ⟨?_, fun k _ => ?_⟩
    · have := i.isLt
      have e : (2147483647#32).toInt = 2147483647 := by decide
      omega
    · rw [hf k]
      split
      · next e => rw [hw]; exact_mod_cast h.index_le k e
      · have := i.isLt
        have e : (8#32).toInt = 8 := by decide
        omega

/-- The order of the stable sort by "greater": greater first, ties in index order. -/
def before (s : Fin n → EReal) (i k : Fin n) : Bool := open Classical in decide (Leads s i k)

/-- The decided order is the order, -/
theorem before_iff (s : Fin n → EReal) (i k : Fin n) : before s i k = true ↔ Leads s i k := by
  classical
  unfold before
  exact decide_eq_true_iff

/-- and its failure the order's failure. -/
theorem before_false_iff (s : Fin n → EReal) (i k : Fin n) : before s i k = false ↔ ¬ Leads s i k := by
  rw [← before_iff, Bool.not_eq_true]

/-- On a list in index order a stable sort by "greater" is one by `Leads`: it compares a later entry with an earlier
    one only. -/
theorem stableSort_before (s : Fin n → EReal) (R : Fin n → Fin n → Bool) (hR : ∀ i k, R i k = true ↔ s k < s i)
    (l : List (Fin n)) (hl : l.Pairwise (· < ·)) : stableSort R l = stableSort (before s) l := by
  induction l with
  | nil => rfl
  | cons a l ih =>
    rw [List.pairwise_cons] at hl
    unfold stableSort
    rw [← ih hl.2]
    refine insertBefore_congr _ _ _ _ fun b hb => ?_
    have hab : a < b := hl.1 b ((perm_stableSort R l).mem_iff.mp hb)
    rw [Bool.eq_iff_iff, hR, before_iff]
    exact ⟨.inl, fun h => h.resolve_right fun h => absurd h.2 (lt_asymm hab)⟩

/-- So the sorted positions are those of `Leads`. -/
theorem sortedFrom_before (s : Fin n → EReal) (R : Fin n → Fin n → Bool) (hR : ∀ i k, R i k = true ↔ s k < s i) :
    sortedFrom R = sortedFrom (before s) := by
  have e : sortPositions n R = sortPositions n (before s) :=
    stableSort_before s R hR _ (List.pairwise_lt_finRange n)
  funext k
  unfold sortedFrom
  rw [List.get_of_eq e]
  rfl

/-- Of two distinct entries one comes before the other. -/
theorem leads_total (s : Fin n → EReal) {i k : Fin n} (h : i ≠ k) (hn : ¬ Leads s k i) : Leads s i k := by
  unfold Leads at hn ⊢
  rcases lt_trichotomy (s k) (s i) with hl | he | hg
  · exact .inl hl
  · rcases lt_or_gt_of_ne h with hi | hi
    · exact .inr ⟨he, hi⟩
    · exact absurd (.inr ⟨he.symm, hi⟩) hn
  · exact absurd (.inl hg) hn

/-- The stable sort by "greater" leaves no inversion. -/
theorem sortedFrom_leads (s : Fin n → EReal) (R : Fin n → Fin n → Bool) (hR : ∀ i k, R i k = true ↔ s k < s i)
    {a b : Fin n} (hab : a < b) : Leads s (sortedFrom R a) (sortedFrom R b) := by
  have hi : sortedFrom R a ≠ sortedFrom R b := fun e => hab.ne (sortedFrom_injective R e)
  refine leads_total s hi fun hl => ?_
  rw [sortedFrom_before s R hR] at hl
  have := sortedFrom_noInversion (before s) (before s)
    (fun i k h => by
      rw [before_iff] at h
      rw [before_false_iff]
      unfold Leads at h ⊢
      rintro (h' | h') <;> rcases h with h | h
      · exact lt_asymm h h'
      · exact absurd h.1 h'.ne'
      · exact absurd h'.1 h.ne'
      · exact lt_asymm h.2 h'.2)
    (fun _ _ h => h)
    (fun i k l h h' => by
      simp only [before_false_iff, Leads, not_or, not_and, not_lt] at h h' ⊢
      refine ⟨h.1.trans h'.1, fun e => ?_⟩
      have e1 : s i = s k := le_antisymm h.1 (e ▸ h'.1)
      exact (h'.2 (e.trans e1)).trans (h.2 e1.symm)) a b hab
  exact (before_false_iff ..).mp this hl

/-- The stable sort's first place holds the first entry, -/
theorem sortedFrom_isFirst (s : Fin 8 → EReal) (R : Fin 8 → Fin 8 → Bool) (hR : ∀ i k, R i k = true ↔ s k < s i) :
    IsFirst s (sortedFrom R 0) := by
  intro k hk
  obtain ⟨b, rfl⟩ := sortedFrom_surjective R k
  exact sortedFrom_leads s R hR (Fin.pos_of_ne_zero fun e => hk (by rw [e]))

/-- and its second place the second. -/
theorem sortedFrom_isSecond (s : Fin 8 → EReal) (R : Fin 8 → Fin 8 → Bool) (hR : ∀ i k, R i k = true ↔ s k < s i) :
    IsSecond s (sortedFrom R 0) (sortedFrom R 1) := by
  refine ⟨fun e => absurd (sortedFrom_injective R e) (by decide), fun k h0 h1 => ?_⟩
  obtain ⟨b, rfl⟩ := sortedFrom_surjective R k
  refine sortedFrom_leads s R hR ?_
  have : b ≠ 0 := fun e => h0 (by rw [e])
  have : b ≠ 1 := fun e => h1 (by rw [e])
  omega

/-- The gate's weight for expert `e` where `i` is the first expert and `j` the second: the softmax of their two scores,
    zero for every other. -/
def mix (s : Fin 8 → EReal) (i j e : Fin 8) : EReal :=
  (if e = i then Ideal.div 1 (1 + Ideal.exp (s j - s i)) else 0)
    + (if e = j then Ideal.div (Ideal.exp (s j - s i)) (1 + Ideal.exp (s j - s i)) else 0)

/-- The activation, `h (1 + erf (h / √2)) / 2` with its constants as printed. -/
def act (h : EReal) : EReal :=
  Ideal.ofBits .f32 0x3F000000#32 * h * (1 + Ideal.erf (h * Ideal.ofBits .f32 0x3F3504F3#32))

end Cert.Moe

end
-- ==== Proof.GateRow.lean ====
/-
  One row of the gate over extended reals: the weights the body computes for a row of scores are the softmax of the
  two greatest scores, placed at their experts.
-/
module

public import proofs.«01_k».proof.Proof.GateBody
public import proofs.«01_k».proof.Proof.Rank
public import Idealize.ShloMosaic.Lib.Pointwise
public import Idealize.ShloMosaic.PureOps.Ideal.Laws

@[expose] public section

set_option maxRecDepth 16384

noncomputable section

namespace Cert.Moe

open Cert.KernelIdeal Cert.KernelIdeal.Gen
open Idealize.ShloMosaic

/-- The word of −∞ reads as −∞. -/
theorem ofBits_bot : Ideal.ofBits FTy.f32 0xFF800000#32 = ⊥ := by
  show Ideal.ieee 8 23 0xFF800000#32 = _
  unfold Ideal.ieee
  dsimp only
  rw [if_pos (by decide), if_pos (by decide), if_pos (by decide)]

/-- The word of +∞ reads as +∞. -/
theorem ofBits_top : Ideal.ofBits FTy.f32 0x7F800000#32 = ⊤ := by
  show Ideal.ieee 8 23 0x7F800000#32 = _
  unfold Ideal.ieee
  dsimp only
  rw [if_pos (by decide), if_pos (by decide), if_neg (by decide)]

/-- Two experts' index words compare equal when the experts are. -/
theorem cmpi_word (k i : Fin 8) :
    IntOp.cmpi .eq (BitVec.ofNat 32 k.val) (BitVec.ofNat 32 i.val) = if k = i then 1#1 else 0#1 := by
  revert k i; decide

variable (x : Vec Ideal S256x1024 .f32) (g : Vec Ideal S8x1024 .f32)

/-- Row `r` of the scores. -/
def gRow (r : Fin 256) (k : Fin 8) : EReal := k0_pay5 x g (ix2 r k)

/-- A score is the row's inner product with the expert's gate weights. -/
theorem gRow_eq (r : Fin 256) (k : Fin 8) : gRow x g r k = ∑ q : Fin 1024, x (ix2 r q) * g (ix2 k q) := by
  unfold gRow
  pointwise [k0_pay5]

variable {x g} {r : Fin 256} {i j : Fin 8}

/-- The first maximum. -/
theorem pay6_eq (hi : IsFirst (gRow x g r) i) : k0_pay6 x g (ix2 r 0) = gRow x g r i := by
  pointwise [k0_pay6]
  rw [ofBits_bot]
  exact hi.fold_max

/-- The mask of the first expert. -/
theorem pay7_eq (hi : IsFirst (gRow x g r) i) (k : Fin 8) : k0_pay7 x g (ix2 r k) = if k = i then 1#1 else 0#1 := by
  pointwise [k0_pay7]
  rw [pay6_eq hi]
  refine Eq.trans (congrArg _ (hi.fold_min _ (fun k => rfl))) (cmpi_word k i)

/-- The scores with the first expert's lowered to −∞. -/
theorem pay8_eq (hi : IsFirst (gRow x g r) i) (k : Fin 8) : k0_pay8 x g (ix2 r k) = if k = i then ⊥ else gRow x g r k := by
  pointwise [k0_pay8]
  rw [pay7_eq hi, ofBits_bot]
  by_cases e : k = i
  · rw [if_pos e, if_pos e]; rfl
  · rw [if_neg e, if_neg e]; rfl

/-- The second maximum. -/
theorem pay9_eq (hi : IsFirst (gRow x g r) i) (hj : IsSecond (gRow x g r) i j) (hb : gRow x g r j ≠ ⊥) :
    k0_pay9 x g (ix2 r 0) = gRow x g r j := by
  pointwise [k0_pay9]
  simp only [pay8_eq hi, ofBits_bot]
  rw [(hj.isFirst_mask hb).fold_max, if_neg hj.1]

/-- The mask of the second expert. -/
theorem pay10_eq (hi : IsFirst (gRow x g r) i) (hj : IsSecond (gRow x g r) i j) (hb : gRow x g r j ≠ ⊥) (k : Fin 8) :
    k0_pay10 x g (ix2 r k) = if k = j then 1#1 else 0#1 := by
  pointwise [k0_pay10]
  rw [pay9_eq hi hj hb, (hj.isFirst_mask hb).fold_min _ (fun k => by simp only [pay8_eq hi, if_neg hj.1])]
  exact cmpi_word k j

/-- The row's weights: the softmax of the two greatest scores at their experts. -/
theorem gComb_eq (hi : IsFirst (gRow x g r) i) (hj : IsSecond (gRow x g r) i j) (hb : gRow x g r j ≠ ⊥) (k : Fin 8) :
    gComb x g (ix2 r k) = mix (gRow x g r) i j k := by
  pointwise [gComb, k0_pay1, k0_pay11, k0_pay12, k0_pay13]
  rw [pay7_eq hi, pay10_eq hi hj hb, pay9_eq hi hj hb, pay6_eq hi]
  unfold mix
  congr 1 <;> split <;> rfl

/-- The loss of the experts' column sums `u`. -/
def lossOf (u : Fin 8 → EReal) : EReal :=
  Ideal.ofBits .f32 0x3C23D70A#32 * (1 - Ideal.div
    (-(∑ k, Ideal.div (u k) (Ideal.ofBits .f32 0x45800000#32)
      * Ideal.log (Ideal.div (u k) (Ideal.ofBits .f32 0x45800000#32) + Ideal.ofBits .f32 0x2EDBE6FF#32)))
    (Ideal.log (Ideal.ofBits .f32 0x41000000#32)))

/-- What the last point stores of the accumulator. -/
theorem pay4_eq (s : Vec Ideal S1x8 .f32) (j : S1x1.Idx) : k0_pay4 s j = lossOf fun k => s (ix2 0 k) := by
  pointwise [k0_pay4]
  unfold lossOf
  rw [zero_sub]
  rfl

/-- A point adds its block's column sums to the accumulator. -/
theorem gSum_eq (x : Vec Ideal S256x1024 .f32) (g : Vec Ideal S8x1024 .f32) (s : Vec Ideal S1x8 .f32) (k : Fin 8) :
    gSum x g s (ix2 0 k) = s (ix2 0 k) + ∑ r : Fin 256, gComb x g (ix2 r k) := by
  unfold gSum gComb
  pointwise [k0_pay3]

end Cert.Moe

end
-- ==== Proof.ExpertRow.lean ====
/-
  The expert body's values over the extended reals, element by element.
-/
module

public import proofs.«01_k».proof.Proof.GateRow
public import proofs.«01_k».proof.Proof.ExpertBody

@[expose] public section

set_option maxRecDepth 16384

noncomputable section

namespace Cert.Moe

open Cert.KernelIdeal Cert.KernelIdeal.Gen
open Idealize.ShloMosaic

/-- A block's output of one expert. -/
theorem pay3_eq (x : Vec Ideal S256x1024 .f32) (p : Vec Ideal S1x4096x1024 .bf16) (q : Vec Ideal S1x1x4096 .f32)
    (r : Vec Ideal S1x1024x4096 .bf16) (u : Vec Ideal S1x1x1024 .f32) (a : Fin 256) (c : Fin 1024) :
    k1_pay3 x p q r u (ix2 a c) = ∑ j : Fin 4096,
      act (∑ k : Fin 1024, x (ix2 a k) * p (ix3 0 j k) + q (ix3 0 0 j)) * r (ix3 0 c j) + u (ix3 0 0 c) := by
  unfold k1_pay3 act
  pointwise
  rfl

/-- The combine weights with every column but the point's expert's cleared. -/
theorem epay4_eq (i : grid1.Coords) (w : Vec Ideal S256x8 .f32) (a : Fin 256) (k : Fin 8) :
    k1_pay4 i w (ix2 a k) = if k.val = (i 1).val then w (ix2 a k) else 0 := by
  unfold k1_pay4
  pointwise
  obtain ⟨e, he⟩ : ∃ e : Fin 8, e.val = (i 1).val := ⟨⟨(i 1).val, (i 1).isLt⟩, rfl⟩
  rw [← he, cmpi_word]
  by_cases h : k = e
  · rw [if_pos h, if_pos (congrArg Fin.val h)]; rfl
  · rw [if_neg h, if_neg fun h' => h (Fin.ext h')]; rfl

/-- The accumulator with an expert's output added, each row scaled by the row sum of its weights. -/
theorem pay2_eq (v : FVec Ideal S256x1024 .f32) (w : FVec Ideal S256x8 .f32) (s : Vec Ideal S256x1024 .f32)
    (a : Fin 256) (c : Fin 1024) :
    k1_pay2 v w s (ix2 a c) = s (ix2 a c) + (∑ k : Fin 8, w (ix2 a k)) * v (ix2 a c) := by
  unfold k1_pay2
  pointwise

/-- The accumulator after one more expert, at an element. -/
theorem eSum_eq (i : grid1.Coords) (w : Vec Ideal S256x8 .f32) (x : Vec Ideal S256x1024 .f32) (p : Vec Ideal S1x4096x1024 .bf16)
    (q : Vec Ideal S1x1x4096 .f32) (r : Vec Ideal S1x1024x4096 .bf16) (u : Vec Ideal S1x1x1024 .f32) (s : Vec Ideal S256x1024 .f32)
    (e : Fin 8) (he : e.val = (i 1).val) (a : Fin 256) (c : Fin 1024) :
    eSum i w x p q r u s (ix2 a c) = s (ix2 a c) + w (ix2 a e) * (∑ j : Fin 4096,
      act (∑ k : Fin 1024, x (ix2 a k) * p (ix3 0 j k) + q (ix3 0 0 j)) * r (ix3 0 c j) + u (ix3 0 0 c)) := by
  unfold eSum
  rw [pay2_eq, pay3_eq]
  refine congrArg (fun z => s (ix2 a c) + z * _) ?_
  rw [Finset.sum_eq_single e (fun k _ hk => by
    rw [epay4_eq, if_neg fun h => hk (Fin.ext (h.trans he.symm))]) (fun h => absurd (Finset.mem_univ _) h),
    epay4_eq, if_pos he]

/-- A block starts from zero. -/
theorem pay1_eq (a : Fin 256) (c : Fin 1024) : (k1_pay1 : FVec Ideal S256x1024 .f32) (ix2 a c) = 0 := by
  unfold k1_pay1
  pointwise

end Cert.Moe

end
-- ==== Proof.ExpertValue.lean ====
/-
  What the expert call reads and what it leaves in its output array, element by element.
-/
module

public import proofs.«01_k».proof.Proof.ExpertData
public import proofs.«01_k».proof.Proof.ExpertRow
public import proofs.«01_k».proof.Proof.GateValue

@[expose] public section

set_option maxRecDepth 16384

noncomputable section

namespace Cert.Moe

open Cert.KernelIdeal Cert.KernelIdeal.Gen
open Idealize.ShloMosaic Idealize.ShloMosaic.TcCoe
open Idealize.SL.Sem
open Idealize.ShloMosaic.Pipeline (Dat)

section Reads

variable {F : FTy → Type} [FloatOps F]
variable (W : Dev nD → Valuation τ sig (Elt F))

/-- Each window's block at a point: the rows' windows move every eight points, the experts' at each. -/
theorem eIndex : ∀ t : Fin cfg1.N, win1_0.index t = ![t.val / 8, 0] ∧ win1_1.index t = ![t.val / 8, 0]
    ∧ win1_2.index t = ![t.val % 8, 0, 0] ∧ win1_3.index t = ![t.val % 8, 0, 0]
    ∧ win1_4.index t = ![t.val % 8, 0, 0] ∧ win1_5.index t = ![t.val % 8, 0, 0]
    ∧ win1_6.index t = ![t.val / 8, 0] ∧ (grid1.coords t 1).val = t.val % 8 :=
  (by decide +kernel : ∀ t : Fin grid1.N, _)

variable (c : Dev nD) (t : Fin cfg1.N) (i : ℕ) (hi : i < 16) (e : Fin 8) (ht : t.val = 8 * i + e.val)
include ht

/-- The combine weights' block at point `t`. -/
theorem eBlk0_eq (r : Fin 256) (k : Fin 8) : (eBlk W c 0 t : Vec F S256x8 .f32) (ix2 r k)
    = (W c (Proc.devRef .tc main_v1_0) : Vec F S4096x8 .f32) (ix2 (rowAt i hi r) k) := by
  have h := (eIndex t).1
  refine congrArg (W c (Proc.devRef .tc main_v1_0) : Vec F S4096x8 .f32) (funext fun a => Fin.ext ?_)
  match a with
  | ⟨0, _⟩ => show win1_0.index t (0 : Fin 2) * 256 + 1 * r.val = 256 * i + r.val; rw [h]; show t.val / 8 * 256 + _ = _; omega
  | ⟨1, _⟩ => show win1_0.index t (1 : Fin 2) * 8 + 1 * k.val = k.val; rw [h]; show 0 * 8 + _ = _; omega

/-- The rows' block. -/
theorem eBlk1_eq (r : Fin 256) (k : Fin 1024) : (eBlk W c 1 t : Vec F S256x1024 .f32) (ix2 r k)
    = (W c (Proc.devRef .tc main_v0) : Vec F S4096x1024 .f32) (ix2 (rowAt i hi r) k) := by
  have h := (eIndex t).2.1
  refine congrArg (W c (Proc.devRef .tc main_v0) : Vec F S4096x1024 .f32) (funext fun a => Fin.ext ?_)
  match a with
  | ⟨0, _⟩ => show win1_1.index t (0 : Fin 2) * 256 + 1 * r.val = 256 * i + r.val; rw [h]; show t.val / 8 * 256 + _ = _; omega
  | ⟨1, _⟩ => show win1_1.index t (1 : Fin 2) * 1024 + 1 * k.val = k.val; rw [h]; show 0 * 1024 + _ = _; omega

/-- The expert's first matrix, -/
theorem eBlk2_eq (j : Fin 4096) (k : Fin 1024) : (eBlk W c 2 t : Vec F S1x4096x1024 .bf16) (ix3 0 j k)
    = (W c (Proc.devRef .tc main_v2) : Vec F S8x4096x1024 .bf16) (ix3 e j k) := by
  have h := (eIndex t).2.2.1
  refine congrArg (W c (Proc.devRef .tc main_v2) : Vec F S8x4096x1024 .bf16) (funext fun a => Fin.ext ?_)
  match a with
  | ⟨0, _⟩ => show win1_2.index t (0 : Fin 3) * 1 + 1 * 0 = e.val; rw [h]; show t.val % 8 * 1 + _ = _; omega
  | ⟨1, _⟩ => show win1_2.index t (1 : Fin 3) * 4096 + 1 * j.val = j.val; rw [h]; show 0 * 4096 + _ = _; omega
  | ⟨2, _⟩ => show win1_2.index t (2 : Fin 3) * 1024 + 1 * k.val = k.val; rw [h]; show 0 * 1024 + _ = _; omega

/-- its first bias, -/
theorem eBlk3_eq (j : Fin 4096) : (eBlk W c 3 t : Vec F S1x1x4096 .f32) (ix3 0 0 j)
    = (W c (Proc.devRef .tc main_v4) : Vec F S8x1x4096 .f32) (ix3 e 0 j) := by
  have h := (eIndex t).2.2.2.1
  refine congrArg (W c (Proc.devRef .tc main_v4) : Vec F S8x1x4096 .f32) (funext fun a => Fin.ext ?_)
  match a with
  | ⟨0, _⟩ => show win1_3.index t (0 : Fin 3) * 1 + 1 * 0 = e.val; rw [h]; show t.val % 8 * 1 + _ = _; omega
  | ⟨1, _⟩ => show win1_3.index t (1 : Fin 3) * 1 + 1 * 0 = 0; rw [h]; rfl
  | ⟨2, _⟩ => show win1_3.index t (2 : Fin 3) * 4096 + 1 * j.val = j.val; rw [h]; show 0 * 4096 + _ = _; omega

/-- its second matrix, -/
theorem eBlk4_eq (k : Fin 1024) (j : Fin 4096) : (eBlk W c 4 t : Vec F S1x1024x4096 .bf16) (ix3 0 k j)
    = (W c (Proc.devRef .tc main_v3) : Vec F S8x1024x4096 .bf16) (ix3 e k j) := by
  have h := (eIndex t).2.2.2.2.1
  refine congrArg (W c (Proc.devRef .tc main_v3) : Vec F S8x1024x4096 .bf16) (funext fun a => Fin.ext ?_)
  match a with
  | ⟨0, _⟩ => show win1_4.index t (0 : Fin 3) * 1 + 1 * 0 = e.val; rw [h]; show t.val % 8 * 1 + _ = _; omega
  | ⟨1, _⟩ => show win1_4.index t (1 : Fin 3) * 1024 + 1 * k.val = k.val; rw [h]; show 0 * 1024 + _ = _; omega
  | ⟨2, _⟩ => show win1_4.index t (2 : Fin 3) * 4096 + 1 * j.val = j.val; rw [h]; show 0 * 4096 + _ = _; omega

/-- its second bias. -/
theorem eBlk5_eq (k : Fin 1024) : (eBlk W c 5 t : Vec F S1x1x1024 .f32) (ix3 0 0 k)
    = (W c (Proc.devRef .tc main_v5) : Vec F S8x1x1024 .f32) (ix3 e 0 k) := by
  have h := (eIndex t).2.2.2.2.2.1
  refine congrArg (W c (Proc.devRef .tc main_v5) : Vec F S8x1x1024 .f32) (funext fun a => Fin.ext ?_)
  match a with
  | ⟨0, _⟩ => show win1_5.index t (0 : Fin 3) * 1 + 1 * 0 = e.val; rw [h]; show t.val % 8 * 1 + _ = _; omega
  | ⟨1, _⟩ => show win1_5.index t (1 : Fin 3) * 1 + 1 * 0 = 0; rw [h]; rfl
  | ⟨2, _⟩ => show win1_5.index t (2 : Fin 3) * 1024 + 1 * k.val = k.val; rw [h]; show 0 * 1024 + _ = _; omega

omit ht in
/-- The output's array ends holding each block's accumulator after the block's last expert. -/
theorem eFinal (r : Fin 256) (k : Fin 1024) :
    ((eDat W c).arrAt 6 cfg1.N : Vec F S4096x1024 .f32) (ix2 (rowAt i hi r) k) = eAcc W c (8 * i + 8) (ix2 r k) := by
  have hN : 8 * i + 7 < cfg1.N := lt_of_lt_of_eq (by omega) N_1.symm
  obtain ⟨t, ht⟩ : ∃ t : Fin cfg1.N, t.val = 8 * i + 7 := ⟨⟨8 * i + 7, hN⟩, rfl⟩
  have hb := (eDat W c).read_blk_arrAt_eq_flushed 6 (fun t t' hf hf' hne => (cfg1.win 6).disjoint_blk fun h => hne (Fin.ext (by
    have e : win1_6.index t = win1_6.index t' := h
    rw [(eIndex t).2.2.2.2.2.2.1, (eIndex t').2.2.2.2.2.2.1] at e
    have e0 : t.val / 8 = t'.val / 8 := congrFun e 0
    have := (flush1_6 t).mp hf
    have := (flush1_6 t').mp hf'
    omega))) cfg1.N t t.isLt ((flush1_6 t).mpr (by omega))
  have h6 := (eIndex t).2.2.2.2.2.2.1
  have hr := congrFun hb (ix2 r k : S256x1024.Idx)
  rw [show (eDat W c).flushed 6 t = (cfg1.win 6).cut (grid1.coords t) ((eDat W c).after 6 t) from rfl, eAfter6] at hr
  rw [show 8 * i + 8 = t.val + 1 by omega]
  refine (congrArg ((eDat W c).arrAt 6 cfg1.N : Vec F S4096x1024 .f32) (?_ : (ix2 (rowAt i hi r) k : S4096x1024.Idx)
    = ((cfg1.win 6).blk t).view.emb (ix2 r k : S256x1024.Idx))).trans (hr.trans
    (congrArg (eAcc W c (t.val + 1)) (?_ : (cfg1.win 6).xinj (grid1.coords t) (ix2 r k : S256x1024.Idx) = (ix2 r k : S256x1024.Idx))))
  · funext a
    apply Fin.ext
    match a with
    | ⟨0, _⟩ => show 256 * i + r.val = win1_6.index t (0 : Fin 2) * 256 + 1 * r.val; rw [h6]; show _ = t.val / 8 * 256 + _; omega
    | ⟨1, _⟩ => show k.val = win1_6.index t (1 : Fin 2) * 1024 + 1 * k.val; rw [h6]; show _ = 0 * 1024 + _; omega
  · funext a
    apply Fin.ext
    match a with
    | ⟨0, _⟩ => rfl
    | ⟨1, _⟩ => rfl

end Reads

/-- Expert `e`'s output for row `r` of the tokens. -/
def expertOf (x : Vec Ideal S4096x1024 .f32) (p : Vec Ideal S8x4096x1024 .bf16) (q : Vec Ideal S8x1x4096 .f32)
    (v : Vec Ideal S8x1024x4096 .bf16) (u : Vec Ideal S8x1x1024 .f32) (e : Fin 8) (r : Fin 4096) (k : Fin 1024) : EReal :=
  ∑ j : Fin 4096, act (∑ l : Fin 1024, x (ix2 r l) * p (ix3 e j l) + q (ix3 e 0 j)) * v (ix3 e k j) + u (ix3 e 0 k)

variable (W : Dev nD → Valuation τ sig (Elt Ideal)) (c : Dev nD)
variable (w : Vec Ideal S4096x8 .f32) (x : Vec Ideal S4096x1024 .f32) (p : Vec Ideal S8x4096x1024 .bf16)
  (q : Vec Ideal S8x1x4096 .f32) (v : Vec Ideal S8x1024x4096 .bf16) (u : Vec Ideal S8x1x1024 .f32)
variable (hw : W c (Proc.devRef .tc main_v1_0) = w) (hx : W c (Proc.devRef .tc main_v0) = x)
  (hp : W c (Proc.devRef .tc main_v2) = p) (hq : W c (Proc.devRef .tc main_v4) = q)
  (hv : W c (Proc.devRef .tc main_v3) = v) (hu : W c (Proc.devRef .tc main_v5) = u)
include hw hx hp hq hv hu

/-- A point adds its expert's share. -/
theorem eAt_eq (i : ℕ) (hi : i < 16) (e : Fin 8) (t : Fin cfg1.N) (ht : t.val = 8 * i + e.val) (s : Vec Ideal S256x1024 .f32)
    (r : Fin 256) (k : Fin 1024) : eAt W c t s (ix2 r k)
      = (if e = 0 then 0 else s (ix2 r k)) + w (ix2 (rowAt i hi r) e) * expertOf x p q v u e (rowAt i hi r) k := by
  have h1 := (eIndex t).2.2.2.2.2.2.2
  have b0 := fun k => (eBlk0_eq W c t i hi e ht r k).trans (congrFun hw _)
  have b1 := fun k => (eBlk1_eq W c t i hi e ht r k).trans (congrFun hx _)
  have b2 := fun j k => (eBlk2_eq W c t i e ht j k).trans (congrFun hp _)
  have b3 := fun j => (eBlk3_eq W c t i e ht j).trans (congrFun hq _)
  have b4 := fun k j => (eBlk4_eq W c t i e ht k j).trans (congrFun hv _)
  have b5 := fun k => (eBlk5_eq W c t i e ht k).trans (congrFun hu _)
  unfold eAt
  rw [eSum_eq _ _ _ _ _ _ _ _ e (by rw [h1]; omega)]
  unfold expertOf
  refine congrArg₂ (· + ·) ?_ (congrArg₂ (· * ·) (b0 e) (congrArg₂ (· + ·) (Finset.sum_congr rfl fun j _ =>
    congrArg₂ (· * ·) (congrArg act (congrArg₂ (· + ·) (Finset.sum_congr rfl fun l _ => congrArg₂ (· * ·) (b1 l) (b2 j l)) (b3 j)))
      (b4 k j)) (b5 k)))
  unfold eFrom
  by_cases h : e = 0
  · rw [if_pos h, if_pos ((eReset_iff t).mpr (by rw [ht, h]; show (8 * i + 0) % 8 = 0; omega)), pay1_eq]
  · have : e.val ≠ 0 := fun h' => h (Fin.ext h')
    rw [if_neg h, if_neg fun h' => this (by have := (eReset_iff t).mp h'; omega)]

/-- The output's array ends holding, at every element, the sum over the experts of their shares. -/
theorem eFinal_eq (i : ℕ) (hi : i < 16) (r : Fin 256) (k : Fin 1024) :
    ((eDat W c).arrAt 6 cfg1.N : Vec Ideal S4096x1024 .f32) (ix2 (rowAt i hi r) k)
      = (∑ e : Fin 8, w (ix2 (rowAt i hi r) e) * expertOf x p q v u e (rowAt i hi r) k : EReal) := by
  have hs : ∀ e : Fin 8, (eAcc W c (8 * i + e.val + 1) (ix2 r k) : EReal)
      = (if e = 0 then 0 else eAcc W c (8 * i + e.val) (ix2 r k))
        + w (ix2 (rowAt i hi r) e) * expertOf x p q v u e (rowAt i hi r) k := fun e => by
    have hN : 8 * i + e.val < cfg1.N := lt_of_lt_of_eq (by omega) N_1.symm
    exact (congrFun (eAcc_succ W c ⟨8 * i + e.val, hN⟩) _).trans
      (eAt_eq W c w x p q v u hw hx hp hq hv hu i hi e ⟨8 * i + e.val, hN⟩ rfl _ r k)
  refine (eFinal W c i hi r k).trans ?_
  rw [Fin.sum_univ_eight]
  refine (hs 7).trans (congrArg (· + _) ?_)
  refine (hs 6).trans (congrArg (· + _) ?_)
  refine (hs 5).trans (congrArg (· + _) ?_)
  refine (hs 4).trans (congrArg (· + _) ?_)
  refine (hs 3).trans (congrArg (· + _) ?_)
  refine (hs 2).trans (congrArg (· + _) ?_)
  refine (hs 1).trans (congrArg (· + _) ?_)
  exact (hs 0).trans (zero_add _)

end Cert.Moe

end
-- ==== Proof.HostValue.lean ====
/-
  What the host operations around the two calls leave in the buffers the calls read and in the results.
-/
module

public import proofs.«01_k».proof.Proof.Run
public import Idealize.ShloMosaic.Lib.Claim

@[expose] public section

set_option maxRecDepth 16384

noncomputable section

namespace Cert.Moe

open Cert.KernelIdeal Cert.KernelIdeal.Gen
open Idealize.ShloMosaic Idealize.ShloMosaic.TcCoe
open Idealize.SL.Sem

variable {F : FTy → Type} [FloatOps F]
variable (V : Valuation τ sig (Elt F))

/-- Before the gate call: the tokens as rows. -/
theorem host0 : StableHlo.after hostOps0 V (Proc.devRef .tc main_v0)
    = shapeCast S4096x1024 (V (Proc.devRef .tc main_arg0) : Vec F S2x2048x1024 .f32) shapeCasts_S2x2048x1024_S4096x1024 := by
  simp only [hostOps0]
  after_results_simp <;> rfl

/-- Before the expert call: the experts' matrices narrowed, and their biases with a unit axis. -/
theorem host1 : StableHlo.after hostOps1 V (Proc.devRef .tc main_v2)
      = truncf .bf16 (V (Proc.devRef .tc main_arg2) : Vec F S8x4096x1024 .f32) bitsLt_bf16_f32
    ∧ StableHlo.after hostOps1 V (Proc.devRef .tc main_v3)
      = truncf .bf16 (V (Proc.devRef .tc main_arg4) : Vec F S8x1024x4096 .f32) bitsLt_bf16_f32
    ∧ StableHlo.after hostOps1 V (Proc.devRef .tc main_v4)
      = shapeCast S8x1x4096 (V (Proc.devRef .tc main_arg3) : Vec F S8x4096 .f32) shapeCasts_S8x4096_S8x1x4096
    ∧ StableHlo.after hostOps1 V (Proc.devRef .tc main_v5)
      = shapeCast S8x1x1024 (V (Proc.devRef .tc main_arg5) : Vec F S8x1024 .f32) shapeCasts_S8x1024_S8x1x1024 := by
  simp only [hostOps1]
  refine ⟨?_, ?_, ?_, ?_⟩ <;> after_results_simp <;> rfl

/-- After the expert call: the results, reshaped. -/
theorem host2 : StableHlo.after hostOps2 V (Proc.devRef .tc main_v7)
      = shapeCast S2x2048x1024 (V (Proc.devRef .tc main_v6) : Vec F S4096x1024 .f32) shapeCasts_S4096x1024_S2x2048x1024
    ∧ StableHlo.after hostOps2 V (Proc.devRef .tc main_v8)
      = shapeCast S_ (V (Proc.devRef .tc main_v1_1) : Vec F S1x1 .f32) shapeCasts_S1x1_S_ := by
  simp only [hostOps2]
  refine ⟨?_, ?_⟩ <;> after_results_simp <;> rfl

end Cert.Moe

end
-- ==== Proof.Finite.lean ====
/-
  The precondition read: every token element and every element of the gate's matrix is a real number, so that every
  score is one.
-/
module

public import proofs.«01_k».proof.Defs
public import proofs.«01_k».proof.Proof.GateRow
public import Idealize.ShloMosaic.Lib.ReduceAll
public import Idealize.ShloMosaic.Lib.Decide

@[expose] public section

set_option maxRecDepth 16384

noncomputable section

namespace Cert.Moe

open Idealize.ShloMosaic Idealize.SL.Sem

namespace Pre
open Cert.Pre_finite_gate

/-- The predicate's operations have the shapes it gives them. -/
theorem facts : Cert.Pre_finite_gate.Facts where
  bcast_S_S2x2048x1024 := by decide
  reducesTo_S2x2048x1024_S_d0_1_2 := by decide
  h_S_ := by decide
  bcast_S_S8x1024 := by decide
  reducesTo_S8x1024_S_d0_1 := by decide

end Pre

/-- An extended real whose magnitude is below infinity is a real number. -/
theorem real_of_abs (a : EReal) (h : FloatOps.cmpf (F := Ideal) (φ := .f32) .olt (FloatOps.hostAbsf (F := Ideal) (φ := .f32) a)
    (Ideal.ofBits .f32 0x7F800000#32) = 1#1) : ∃ b : ℝ, a = b := by
  rw [ofBits_top] at h
  have h' : BitVec.ofBool (decide (max a (-a) < ⊤)) = 1#1 := h
  have h2 : max a (-a) < ⊤ := by
    by_contra hn
    rw [decide_eq_false hn] at h'
    exact absurd h' (by decide)
  induction a using EReal.rec with
  | bot => exact absurd h2 (by simp)
  | coe b => exact ⟨b, rfl⟩
  | top => exact absurd h2 (by simp)

/-- The precondition, element by element. -/
theorem finite_of_pre (m : (ℓ : Loc Cert.KernelIdeal.nD Cert.KernelIdeal.τ Cert.KernelIdeal.sig) → Buf (Elt Ideal) ℓ)
    (h : Cert.Pre_KernelIdeal_finite_gate (hPre_finite_gate := Pre.facts) m) (c : Dev Cert.KernelIdeal.nD) :
    (∀ i, ∃ b : ℝ, (m ((c.tc : Thread Cert.KernelIdeal.nD Cert.KernelIdeal.τ).loc Cert.KernelIdeal.main_arg0)
        : Vec Ideal Cert.KernelIdeal.S2x2048x1024 .f32) i = (b : EReal))
    ∧ ∀ i, ∃ b : ℝ, (m ((c.tc : Thread Cert.KernelIdeal.nD Cert.KernelIdeal.τ).loc Cert.KernelIdeal.main_arg1)
        : Vec Ideal Cert.KernelIdeal.S8x1024 .f32) i = (b : EReal) := by
  have hc := congrFun (h c) (fun a => a.elim0)
  obtain ⟨h0, h1⟩ := IntOp.andi_eq_one.mp hc
  exact ⟨fun i => real_of_abs _ (Host.reduce_andi_all _ _ _ _ _ h0 i), fun i => real_of_abs _ (Host.reduce_andi_all _ _ _ _ _ h1 i)⟩

/-- A finite sum of products of real numbers is a real number. -/
theorem real_of_sum {ι : Type} (s : Finset ι) (f g : ι → EReal) (hf : ∀ i, ∃ b : ℝ, f i = b) (hg : ∀ i, ∃ b : ℝ, g i = b) :
    ∃ b : ℝ, ∑ i ∈ s, f i * g i = b := by
  choose u hu using hf
  choose v hv using hg
  refine ⟨∑ i ∈ s, u i * v i, ?_⟩
  simp only [hu, hv, ← EReal.coe_mul]
  classical
  induction s using Finset.induction_on with
  | empty => simp
  | insert a s ha ih => rw [Finset.sum_insert ha, Finset.sum_insert ha, ih, EReal.coe_add]

end Cert.Moe

end
-- ==== Proof.Reference.lean ====
/-
  The reference over extended reals, element by element: the gate's scores, the combine weights, the experts' outputs,
  their combination and the loss.
-/
module

public import proofs.«01_k».proof.Proof.Gen.ReferenceIdeal.Run
public import proofs.«01_k».proof.Proof.GateRow
public import Idealize.ShloMosaic.Lib.Pointwise
public import Idealize.ShloMosaic.PureOps.Ideal.Laws

@[expose] public section

set_option maxRecDepth 16384

noncomputable section

namespace Cert.Moe.Ref

open Cert.ReferenceIdeal Cert.ReferenceIdeal.Gen Cert.ReferenceIdeal.Facts
open Idealize.ShloMosaic

variable {F : FTy → Type} [FloatOps F]

/-- The rows of `x`. -/
def rows (x : FVec F S2x2048x1024 .f32) : FVec F S4096x1024 .f32 := shapeCast S4096x1024 x shapeCasts_S2x2048x1024_S4096x1024

/-- The gate's scores. -/
def scores (v : FVec F S4096x1024 .f32) (g : FVec F S8x1024 .f32) : FVec F S4096x8 .f32 :=
  Host.dotGeneral dot_S4096x1024_S1024x8_S4096x8_1_0_0_1_n_n none v (transpose S1024x8 [1, 0] g transposes_S8x1024_S1024x8_1_0)

/-- The two greatest scores of each row and their experts. -/
def top (s : FVec F S4096x8 .f32) : FVec F S4096x2 .f32 × IVec S4096x2 32 :=
  Host.topK S4096x2 1 (FloatOps.cmpfTotal .gt) s sliceFits_S4096x8_S4096x2

/-- The exponentials of a row's scores less their maximum. -/
def powers (v : FVec F S4096x2 .f32) : FVec F S4096x2 .f32 :=
  Host.exp (subf v (broadcastInDim S4096x2 ![0, 1] bcast_S4096x1_S4096x2_0_1 (broadcastInDim S4096x1 ![0] bcast_S4096_S4096x1_0
    (maximumf (broadcastInDim S4096 ![] bcast_S_S4096 (constant S_ .f32 0xFF800000#32))
      (Host.reduce FloatOps.maximumf v (constant S_ .f32 0xFF800000#32) reducesTo_S4096x2_S4096_d1 h_S_)))))

/-- Their softmax. -/
def soft (v : FVec F S4096x2 .f32) : FVec F S4096x2 .f32 :=
  Host.divf (powers v) (broadcastInDim S4096x2 ![0, 1] bcast_S4096x1_S4096x2_0_1 (broadcastInDim S4096x1 ![0] bcast_S4096_S4096x1_0
    (Host.reduceAdd (powers v) (constant S_ .f32 0x00000000#32) reducesTo_S4096x2_S4096_d1 h_S_)))

/-- The combine weights: each weight at its expert's place, zero elsewhere. -/
def place (i : IVec S4096x2 32) (w : FVec F S4096x2 .f32) : FVec F S4096x8 .f32 :=
  Host.reduceAdd (mulf (uitofp .f32 (cmpi .eq
      (broadcastInDim S4096x2x8 ![0, 1, 2] bcast_S4096x2x1_S4096x2x8_0_1_2 (broadcastInDim S4096x2x1 ![0, 1] bcast_S4096x2_S4096x2x1_0_1 i))
      (broadcastInDim S4096x2x8 ![0, 1, 2] bcast_S1x1x8_S4096x2x8_0_1_2 (iotaInDim S1x1x8 32 2))))
    (broadcastInDim S4096x2x8 ![0, 1, 2] bcast_S4096x2x1_S4096x2x8_0_1_2 (broadcastInDim S4096x2x1 ![0, 1] bcast_S4096x2_S4096x2x1_0_1 w)))
    (constant S_ .f32 0x00000000#32) reducesTo_S4096x2x8_S4096x8_d1 h_S_

/-- The combine weights of the scores. -/
def comb (s : FVec F S4096x8 .f32) : FVec F S4096x8 .f32 := place (top s).2 (soft (top s).1)

/-- The experts' hidden values before the activation. -/
def hidden (v : FVec F S4096x1024 .f32) (w : FVec F S8x4096x1024 .f32) (b : FVec F S8x4096 .f32) : FVec F S8x4096x4096 .f32 :=
  addf (transpose S8x4096x4096 [1, 0, 2] (Host.dotGeneral dot_S4096x1024_S8x1024x4096_S4096x8x4096_1_1_0_02_n_n none v
      (transpose S8x1024x4096 [0, 2, 1] w transposes_S8x4096x1024_S8x1024x4096_0_2_1)) transposes_S4096x8x4096_S8x4096x4096_1_0_2)
    (broadcastInDim S8x4096x4096 ![0, 1, 2] bcast_S8x1x4096_S8x4096x4096_0_1_2 (broadcastInDim S8x1x4096 ![0, 2] bcast_S8x4096_S8x1x4096_0_2 b))

/-- The activation. -/
def gelu (h : FVec F S8x4096x4096 .f32) : FVec F S8x4096x4096 .f32 :=
  mulf (mulf (broadcastInDim S8x4096x4096 ![] bcast_S_S8x4096x4096 (constant S_ .f32 0x3F000000#32)) h)
    (Host.erfc (mulf (Host.negf h) (broadcastInDim S8x4096x4096 ![] bcast_S_S8x4096x4096 (constant S_ .f32 0x3F3504F3#32))))

/-- The experts' outputs from their activated hidden values. -/
def outputs (h : FVec F S8x4096x4096 .f32) (w : FVec F S8x1024x4096 .f32) (b : FVec F S8x1024 .f32) : FVec F S8x4096x1024 .f32 :=
  addf (Host.dotGeneral dot_S8x4096x4096_S8x4096x1024_S8x4096x1024_2_1_1_2_0_0 none h
      (transpose S8x4096x1024 [0, 2, 1] w transposes_S8x1024x4096_S8x4096x1024_0_2_1))
    (broadcastInDim S8x4096x1024 ![0, 1, 2] bcast_S8x1x1024_S8x4096x1024_0_1_2 (broadcastInDim S8x1x1024 ![0, 2] bcast_S8x1024_S8x1x1024_0_2 b))

/-- The experts' outputs combined. -/
def mixed (c : FVec F S4096x8 .f32) (y : FVec F S8x4096x1024 .f32) : FVec F S4096x1024 .f32 :=
  Host.dotGeneral dot_S4096x8_S8x4096x1024_S4096x1024_1_0_n_2_0_1 none c y

/-- The share of each expert. -/
def usage (c : FVec F S4096x8 .f32) : FVec F S8 .f32 :=
  Host.divf (Host.reduceAdd c (constant S_ .f32 0x00000000#32) reducesTo_S4096x8_S8_d0 h_S_)
    (broadcastInDim S8 ![] bcast_S_S8 (constant S_ .f32 0x45800000#32))

/-- The loss of the combine weights. -/
def loss (c : FVec F S4096x8 .f32) : FVec F S_ .f32 :=
  mulf (constant S_ .f32 0x3C23D70A#32) (subf (constant S_ .f32 0x3F800000#32) (Host.divf (Host.negf
    (Host.reduceAdd (mulf (usage c) (Host.log (addf (usage c) (broadcastInDim S8 ![] bcast_S_S8 (constant S_ .f32 0x2EDBE6FF#32)))))
      (constant S_ .f32 0x00000000#32) reducesTo_S8_S_d0 h_S_)) (Host.log (constant S_ .f32 0x41000000#32))))

variable (m : (ℓ : Loc nD τ sig) → Buf (Elt F) ℓ) (c : Dev nD)

/-- The reference's first result in these terms, -/
theorem out0_eq : Cert.ReferenceIdeal.Value.res_main_v38 m c = shapeCast S2x2048x1024
    (mixed (comb (scores (rows (m ((c.tc : Thread nD τ).loc main_arg0))) (m ((c.tc : Thread nD τ).loc main_arg1))))
      (outputs (gelu (hidden (rows (m ((c.tc : Thread nD τ).loc main_arg0))) (m ((c.tc : Thread nD τ).loc main_arg2))
        (m ((c.tc : Thread nD τ).loc main_arg3)))) (m ((c.tc : Thread nD τ).loc main_arg4)) (m ((c.tc : Thread nD τ).loc main_arg5))))
    shapeCasts_S4096x1024_S2x2048x1024 := rfl

/-- and its second. -/
theorem out1_eq : Cert.ReferenceIdeal.Value.res_main_v51 m c
    = loss (comb (scores (rows (m ((c.tc : Thread nD τ).loc main_arg0))) (m ((c.tc : Thread nD τ).loc main_arg1)))) := rfl

section
open Cert.Moe

/-- A score is the row's inner product with the expert's gate weights. -/
theorem scores_eq (v : FVec Ideal S4096x1024 .f32) (g : FVec Ideal S8x1024 .f32) (r : Fin 4096) (k : Fin 8) :
    scores v g (ix2 r k) = ∑ q : Fin 1024, v (ix2 r q) * g (ix2 k q) := by
  unfold scores
  pointwise

/-- Row `r` of the scores in the order of the stable sort. -/
def order (s : FVec Ideal S4096x8 .f32) (r : Fin 4096) : Fin 8 → Fin 8 :=
  sortedFrom fun k k' => FloatOps.cmpfTotal (F := Ideal) .gt (s (ix2 r k)) (s (ix2 r k')) == 1#1

/-- A row's index moved along the row. -/
theorem along_eq (r : Fin 4096) (k k' : Fin 8) : (ix2 r k : S4096x8.Idx).along 1 k' = ix2 r k' := by
  funext a
  fin_cases a <;> rfl

/-- The two greatest scores of a row and their experts are those the sort puts first. -/
theorem top_eq (s : FVec Ideal S4096x8 .f32) (r : Fin 4096) (k : Fin 2) :
    (top s).1 (ix2 r k) = s (ix2 r (order s r (k.castLE (by decide))))
    ∧ (top s).2 (ix2 r k) = BitVec.ofNat 32 (order s r (k.castLE (by decide))).val := by
  have hd : 1 < S4096x8.rank := by decide
  have hal := fun k' : Fin 8 => along_eq r (k.castLE (by decide)) k'
  have hx : ∀ (y : S4096x8.Idx → Ideal .f32), extractStridedSlice S4096x2 (fun _ => 0) y sliceFits_S4096x8_S4096x2 (ix2 r k)
      = y (ix2 r (k.castLE (by decide))) := fun y => by
    unfold extractStridedSlice
    refine congrArg y (funext fun a => Fin.ext ?_)
    fin_cases a <;> exact Nat.zero_add _
  have hy : ∀ (y : S4096x8.Idx → BitVec 32), extractStridedSlice S4096x2 (fun _ => 0) y sliceFits_S4096x8_S4096x2 (ix2 r k)
      = y (ix2 r (k.castLE (by decide))) := fun y => by
    unfold extractStridedSlice
    refine congrArg y (funext fun a => Fin.ext ?_)
    fin_cases a <;> exact Nat.zero_add _
  have hs : ∀ k', (ix2 r (k.castLE (by decide)) : S4096x8.Idx).along ⟨1, hd⟩ k' = ix2 r k' := hal
  have ho : sortedFrom (fun k' k'' => FloatOps.cmpfTotal (F := Ideal) .gt
      (s ((ix2 r (k.castLE (by decide)) : S4096x8.Idx).along ⟨1, hd⟩ k'))
      (s ((ix2 r (k.castLE (by decide)) : S4096x8.Idx).along ⟨1, hd⟩ k'')) == 1#1) = order s r := by
    unfold order
    refine congrArg sortedFrom (funext fun k' => funext fun k'' => ?_)
    rw [hs, hs]
    rfl
  unfold top Host.topK Host.sort2
  dsimp only
  constructor
  · rw [hx, dif_pos hd]
    show s _ = _
    rw [ho]
    exact congrArg s (hs _)
  · rw [hy, dif_pos hd]
    dsimp only
    rw [dif_pos hd, ho]
    refine (congrArg (iotaInDim S4096x8 32 ⟨1, hd⟩) (hs _)).trans ?_
    rfl

/-- The sort's comparison is the order of the extended reals. -/
theorem gt_iff (a b : EReal) : (FloatOps.cmpfTotal (F := Ideal) (φ := .f32) .gt a b == 1#1) = true ↔ b < a := by
  show (BitVec.ofBool (decide (b < a)) == 1#1) = true ↔ b < a
  by_cases h : b < a <;> simp [h]

/-- The softmax of a pair of finite scores, the first the greater. -/
theorem soft_eq (v : FVec Ideal S4096x2 .f32) (r : Fin 4096) (a b : ℝ) (ha : v (ix2 r 0) = a) (hb : v (ix2 r 1) = b)
    (hab : b ≤ a) : soft v (ix2 r 0) = Ideal.div 1 (1 + Ideal.exp (v (ix2 r 1) - v (ix2 r 0)))
    ∧ soft v (ix2 r 1) = Ideal.div (Ideal.exp (v (ix2 r 1) - v (ix2 r 0))) (1 + Ideal.exp (v (ix2 r 1) - v (ix2 r 0))) := by
  have hm : max (Ideal.ofBits FTy.f32 0xFF800000#32)
      (Finset.fold max (Ideal.ofBits FTy.f32 0xFF800000#32) (fun k => v (ix2 r k)) Finset.univ) = v (ix2 r 0) := by
    rw [ofBits_bot, max_eq_right bot_le]
    refine le_antisymm (Finset.fold_max_le _ |>.mpr ⟨bot_le, fun k _ => ?_⟩)
      (Finset.le_fold_max _ |>.mpr (.inr ⟨0, Finset.mem_univ _, le_rfl⟩))
    fin_cases k
    · exact le_rfl
    · show v (ix2 r 1) ≤ v (ix2 r 0)
      rw [ha, hb]; exact_mod_cast hab
  have h1 : Ideal.exp (v (ix2 r 0) - v (ix2 r 0)) = 1 := by
    rw [ha, ← EReal.coe_sub, sub_self, Ideal.exp_coe, Real.exp_zero]; rfl
  constructor
  all_goals
    unfold soft powers
    pointwise
    rw [hm, Fin.sum_univ_two, h1]

/-- The bit of an equality of experts, as a factor. -/
theorem bit_mul (k e : Fin 8) (w : EReal) : FloatOps.uitofp (F := Ideal) FTy.f32
    (IntOp.cmpi .eq (BitVec.ofNat 32 k.val) (BitVec.ofNat 32 e.val)) * w = if e = k then w else 0 := by
  rw [cmpi_word]
  by_cases h : e = k
  · rw [if_pos h.symm, if_pos h]
    show (((1#1).toNat : ℝ) : EReal) * w = w
    norm_num
  · rw [if_neg (fun h' => h h'.symm), if_neg h]
    show (((0#1).toNat : ℝ) : EReal) * w = 0
    norm_num

/-- The combine weights of a row of finite scores. -/
theorem comb_eq (s : FVec Ideal S4096x8 .f32) (r : Fin 4096) (hs : ∀ k, ∃ a : ℝ, s (ix2 r k) = a) :
    ∃ i j, IsFirst (fun k => s (ix2 r k)) i ∧ IsSecond (fun k => s (ix2 r k)) i j
      ∧ ∀ e, comb s (ix2 r e) = mix (fun k => s (ix2 r k)) i j e := by
  have hi := sortedFrom_isFirst (fun k => s (ix2 r k)) _ fun i k => gt_iff (s (ix2 r i)) (s (ix2 r k))
  have hj := sortedFrom_isSecond (fun k => s (ix2 r k)) _ fun i k => gt_iff (s (ix2 r i)) (s (ix2 r k))
  refine ⟨order s r 0, order s r 1, hi, hj, fun e => ?_⟩
  obtain ⟨a, ha⟩ := hs (order s r 0)
  obtain ⟨b, hb⟩ := hs (order s r 1)
  have h0 := top_eq s r 0
  have h1 := top_eq s r 1
  have hw := soft_eq (top s).1 r a b (h0.1.trans ha) (h1.1.trans hb) (by
    have := hi.le (order s r 1)
    rw [← EReal.coe_le_coe_iff, ← ha, ← hb]; exact this)
  rw [show (top s).1 (ix2 r 0) = s (ix2 r (order s r 0)) from h0.1,
    show (top s).1 (ix2 r 1) = s (ix2 r (order s r 1)) from h1.1] at hw
  unfold comb place
  pointwise
  rw [Fin.sum_univ_two, h0.2, h1.2, bit_mul, bit_mul, hw.1, hw.2]
  rfl

/-- An expert's hidden value. -/
theorem hidden_eq (v : FVec Ideal S4096x1024 .f32) (w : FVec Ideal S8x4096x1024 .f32) (b : FVec Ideal S8x4096 .f32)
    (e : Fin 8) (r k : Fin 4096) :
    hidden v w b (ix3 e r k) = ∑ q : Fin 1024, v (ix2 r q) * w (ix3 e k q) + b (ix2 e k) := by
  unfold hidden
  pointwise

/-- The activation, element by element. -/
theorem gelu_eq (h : FVec Ideal S8x4096x4096 .f32) (e : Fin 8) (r k : Fin 4096) :
    gelu h (ix3 e r k) = act (h (ix3 e r k)) := by
  unfold gelu act
  pointwise
  rw [EReal.neg_mul, Ideal.erfc_neg]

/-- An expert's output. -/
theorem outputs_eq (h : FVec Ideal S8x4096x4096 .f32) (w : FVec Ideal S8x1024x4096 .f32) (b : FVec Ideal S8x1024 .f32)
    (e : Fin 8) (r : Fin 4096) (k : Fin 1024) :
    outputs h w b (ix3 e r k) = ∑ q : Fin 4096, h (ix3 e r q) * w (ix3 e k q) + b (ix2 e k) := by
  unfold outputs
  pointwise

/-- The combination of the experts' outputs. -/
theorem mixed_eq (c : FVec Ideal S4096x8 .f32) (y : FVec Ideal S8x4096x1024 .f32) (r : Fin 4096) (k : Fin 1024) :
    mixed c y (ix2 r k) = ∑ e : Fin 8, c (ix2 r e) * y (ix3 e r k) := by
  unfold mixed
  pointwise

/-- The loss, from the column sums of the combine weights. -/
theorem loss_eq (c : FVec Ideal S4096x8 .f32) (j : S_.Idx) : loss c j = lossOf fun k => ∑ r : Fin 4096, c (ix2 r k) := by
  unfold loss usage lossOf
  pointwise

end

end Cert.Moe.Ref

end
-- ==== Proof.Agree.lean ====
/-
  The kernel's results are the reference's: the combine weights agree row by row, so the loss does, and each element of
  the output is the same sum over the experts.
-/
module

public import proofs.«01_k».proof.Proof.GateValue
public import proofs.«01_k».proof.Proof.ExpertValue
public import proofs.«01_k».proof.Proof.HostValue
public import proofs.«01_k».proof.Proof.Finite
public import proofs.«01_k».proof.Proof.Reference

@[expose] public section

set_option maxRecDepth 16384

noncomputable section

namespace Cert.Moe

open Cert.KernelIdeal Cert.KernelIdeal.Gen
open Idealize.ShloMosaic Idealize.ShloMosaic.TcCoe
open Idealize.SL.Sem
open Idealize.ShloMosaic.Pipeline (Dat)

/-- The reference's scores of rows `x` under the gate's matrix `g`, -/
abbrev scoresOf (x : FVec Ideal S4096x1024 .f32) (g : FVec Ideal S8x1024 .f32) : FVec Ideal S4096x8 .f32 := Ref.scores (F := Ideal) x g
/-- and its combine weights of them. -/
abbrev combOf (x : FVec Ideal S4096x1024 .f32) (g : FVec Ideal S8x1024 .f32) : FVec Ideal S4096x8 .f32 := Ref.comb (scoresOf x g)

section Gate

variable (W : Dev nD → Valuation τ sig (Elt Ideal)) (c : Dev nD)
variable (x : Vec Ideal S4096x1024 .f32) (g : Vec Ideal S8x1024 .f32)
variable (hx : W c (Proc.devRef .tc main_v0) = x) (hg : W c (Proc.devRef .tc main_arg1) = g)
include hx hg

/-- The scores of a block's row are the reference's of the row it is. -/
theorem gRow_scores (t : Fin cfg0.N) (ht : t.val < 16) (r : Fin 256) :
    gRow (gBlk W c 0 t) (gBlk W c 1 t) r = fun k => scoresOf x g (ix2 (rowAt t.val ht r) k) := by
  funext k
  refine (gRow_eq _ _ r k).trans (Eq.trans ?_ (Ref.scores_eq x g (rowAt t.val ht r) k).symm)
  exact Finset.sum_congr rfl fun q _ => congrArg₂ (· * ·) ((gBlk0_eq W c t ht r q).trans (congrFun hx _))
    (congrFun ((gBlk1_eq W c t).trans hg) _)

/-- The combine weights the gate call leaves are the reference's. -/
theorem gComb_ref (hf : ∀ r k, ∃ b : ℝ, scoresOf x g (ix2 r k) = (b : EReal)) (t : Fin cfg0.N) (ht : t.val < 16) (r : Fin 256) (k : Fin 8) :
    gComb (gBlk W c 0 t) (gBlk W c 1 t) (ix2 r k) = combOf x g (ix2 (rowAt t.val ht r) k) := by
  obtain ⟨i, j, hi, hj, he⟩ := Ref.comb_eq (scoresOf x g) (rowAt t.val ht r) (hf _)
  have hs := gRow_scores W c x g hx hg t ht r
  rw [← hs] at hi hj he
  refine Eq.trans (gComb_eq hi hj ?_ k) (he k).symm
  obtain ⟨b, hb⟩ := hf (rowAt t.val ht r) j
  rw [(congrFun hs j).trans hb]
  exact EReal.coe_ne_bot b

/-- The array of combine weights. -/
theorem gFinal2_ref (hf : ∀ r k, ∃ b : ℝ, scoresOf x g (ix2 r k) = (b : EReal)) :
    (gDat W c).arrAt 2 cfg0.N = combOf x g := by
  funext y
  obtain ⟨r, k, rfl⟩ : ∃ r k, y = ix2 r k := ⟨_, _, eq_ix2 y⟩
  have ht : r.val / 256 < 16 := by have : r.val < 4096 := r.isLt; omega
  have e : r = rowAt (r.val / 256) ht ⟨r.val % 256, Nat.mod_lt _ (by decide)⟩ := Fin.ext (by
    show r.val = 256 * (r.val / 256) + r.val % 256; omega)
  rw [e]
  exact (gFinal2 W c ⟨r.val / 256, lt_of_lt_of_eq ht N_0.symm⟩ ht _ k).trans (gComb_ref W c x g hx hg hf _ ht _ k)

/-- Before point `n` the accumulator holds the column sums of the combine weights of the rows before it. -/
theorem gAcc_sum (hf : ∀ r k, ∃ b : ℝ, scoresOf x g (ix2 r k) = (b : EReal)) (k : Fin 8) : ∀ n : ℕ, n ≤ 16 →
    gAcc W c n (ix2 0 k) = ∑ t ∈ Finset.range n, (if ht : t < 16 then
      ∑ r : Fin 256, combOf x g (ix2 (rowAt t ht r) k) else 0 : EReal)
  | 0, _ => by
    rw [Finset.range_zero, Finset.sum_empty]
    show k0_pay2 (ix2 0 k) = _
    unfold k0_pay2
    pointwise
  | n + 1, hn => by
    have ht : n < 16 := hn
    have ih := gAcc_sum hf k n (by omega)
    have hN : n < cfg0.N := lt_of_lt_of_eq ht N_0.symm
    rw [Finset.sum_range_succ, dif_pos ht, ← ih]
    refine (congrFun (gAcc_succ W c ⟨n, hN⟩) _).trans ((gSum_eq _ _ _ k).trans (congrArg₂ (· + ·) ?_ ?_))
    · unfold gFrom
      by_cases h : gReset (grid0.coords ⟨n, hN⟩)
      · rw [if_pos h]
        have h0 : n = 0 := (gReset_iff ⟨n, hN⟩).mp h
        subst h0
        rfl
      · rw [if_neg h]
    · exact Finset.sum_congr rfl fun r _ => gComb_ref W c x g hx hg hf ⟨n, hN⟩ ht r k

/-- After the last point it holds those of all the rows. -/
theorem gAcc_all (hf : ∀ r k, ∃ b : ℝ, scoresOf x g (ix2 r k) = (b : EReal)) (k : Fin 8) :
    gAcc W c 16 (ix2 0 k) = (∑ r : Fin 4096, combOf x g (ix2 r k) : EReal) := by
  rw [gAcc_sum W c x g hx hg hf k 16 le_rfl, Finset.sum_range]
  have h := Equiv.sum_comp (finProdFinEquiv (m := 16) (n := 256)) (fun r : Fin (16 * 256) => combOf x g (ix2 (r : Fin 4096) k))
  rw [Fintype.sum_prod_type] at h
  refine Eq.trans (Finset.sum_congr rfl fun t _ => ?_) h
  rw [dif_pos t.isLt]
  refine Finset.sum_congr rfl fun r _ => congrArg (fun z : Fin 4096 => combOf x g (ix2 z k)) (Fin.ext ?_)
  show 256 * t.val + r.val = r.val + 256 * t.val
  omega

/-- The loss the gate call leaves is the reference's. -/
theorem gFinal3_ref (hf : ∀ r k, ∃ b : ℝ, scoresOf x g (ix2 r k) = (b : EReal)) (j) :
    (gDat W c).arrAt 3 cfg0.N (ix2 0 0 : S1x1.Idx) = Ref.loss (F := Ideal) (combOf x g) j := by
  rw [Ref.loss_eq]
  exact (gFinal3 W c).trans ((pay4_eq _ _).trans (congrArg lossOf (funext fun k => gAcc_all W c x g hx hg hf k)))

end Gate

/-- An expert's output is the reference's. -/
theorem expertOf_ref (x : FVec Ideal S4096x1024 .f32) (p : FVec Ideal S8x4096x1024 .f32) (q : FVec Ideal S8x4096 .f32)
    (v : FVec Ideal S8x1024x4096 .f32) (u : FVec Ideal S8x1024 .f32) (e : Fin 8) (r : Fin 4096) (k : Fin 1024) :
    expertOf x (truncf .bf16 p bitsLt_bf16_f32) (shapeCast S8x1x4096 q shapeCasts_S8x4096_S8x1x4096)
      (truncf .bf16 v bitsLt_bf16_f32) (shapeCast S8x1x1024 u shapeCasts_S8x1024_S8x1x1024) e r k
      = Ref.outputs (Ref.gelu (Ref.hidden x p q)) v u (ix3 e r k) := by
  rw [Ref.outputs_eq]
  unfold expertOf
  refine congrArg₂ (· + ·) (Finset.sum_congr rfl fun j _ => congrArg₂ (· * ·) ?_ rfl) (by pointwise)
  rw [Ref.gelu_eq, Ref.hidden_eq]
  exact congrArg act (congrArg₂ (· + ·) rfl (by pointwise))

section Run

variable (m : (ℓ : Loc nD τ sig) → Buf (Elt Ideal) ℓ) (c : Dev nD)
variable (a0 : FVec Ideal S2x2048x1024 .f32) (a1 : FVec Ideal S8x1024 .f32) (a2 : FVec Ideal S8x4096x1024 .f32)
  (a3 : FVec Ideal S8x4096 .f32) (a4 : FVec Ideal S8x1024x4096 .f32) (a5 : FVec Ideal S8x1024 .f32)
variable (h0 : m ((c.tc : Thread nD τ).loc main_arg0) = a0) (h1 : m ((c.tc : Thread nD τ).loc main_arg1) = a1)
  (h2 : m ((c.tc : Thread nD τ).loc main_arg2) = a2) (h3 : m ((c.tc : Thread nD τ).loc main_arg3) = a3)
  (h4 : m ((c.tc : Thread nD τ).loc main_arg4) = a4) (h5 : m ((c.tc : Thread nD τ).loc main_arg5) = a5)
variable (f0 : ∀ i, ∃ b : ℝ, a0 i = (b : EReal)) (f1 : ∀ i, ∃ b : ℝ, a1 i = (b : EReal))

/-- The tokens as rows. -/
abbrev rowsOf (a0 : FVec Ideal S2x2048x1024 .f32) : FVec Ideal S4096x1024 .f32 := Ref.rows (F := Ideal) a0

include f0 f1 in
/-- The scores are real numbers. -/
theorem scores_real (r : Fin 4096) (k : Fin 8) : ∃ b : ℝ, scoresOf (rowsOf a0) a1 (ix2 r k) = (b : EReal) := by
  obtain ⟨b, hb⟩ := real_of_sum Finset.univ (fun q : Fin 1024 => rowsOf a0 (ix2 r q)) (fun q => a1 (ix2 k q))
    (fun q => f0 _) (fun q => f1 _)
  exact ⟨b, (Ref.scores_eq (rowsOf a0) a1 r k).trans hb⟩

/-! The gate call finds the tokens as rows and the gate's matrix as launched; the expert call finds the same rows. -/
include h0 in
theorem rows_V1 : V1 m c (Proc.devRef .tc main_v0) = rowsOf a0 :=
  (host0 (V0 m c)).trans (congrArg (fun z => shapeCast S4096x1024 (z : Vec Ideal S2x2048x1024 .f32) shapeCasts_S2x2048x1024_S4096x1024) h0)
include h1 in
theorem gate_V1 : V1 m c (Proc.devRef .tc main_arg1) = a1 := (V1_of m c main_arg1 (by decide)).trans h1

include h0 h1 f0 f1 in
/-- The expert call finds the reference's combine weights, -/
theorem comb_V3 : V3 m (left m) c (Proc.devRef .tc main_v1_0) = combOf (rowsOf a0) a1 :=
  (V3_of m (left m) c main_v1_0 (by decide)).trans ((gLeft m c main_v1_0).symm.trans
    ((Pipeline.afterRegion_arr (gDat (V1 m) c) (V1 m c) winFacts0.arr_inj 2).trans
      (gFinal2_ref (V1 m) c _ _ (rows_V1 m c a0 h0) (gate_V1 m c a1 h1) (scores_real a0 a1 f0 f1))))
include h0 in
theorem rows_V3 : V3 m (left m) c (Proc.devRef .tc main_v0) = rowsOf a0 :=
  (V3_of m (left m) c main_v0 (by decide)).trans ((V2_of m (left m) c main_v0 (by decide)).trans (rows_V1 m c a0 h0))

/-- An argument reaches the host operations before the expert call as launched. -/
theorem arg_V2 (r : Ref sig .tc) (h : r ∉ ([main_v1_0, main_v1_1] : List (Ref sig .tc))) (h' : r ∉ hostOps0_W) :
    V2 m (left m) c (Proc.devRef .tc r) = m ((c.tc : Thread nD τ).loc r) :=
  (V2_of m (left m) c r h).trans (V1_of m c r h')

/-- An element of the output: the sum over the experts of their outputs, each times its combine weight. -/
theorem mixed_ref (r : Fin 4096) (k : Fin 1024) :
    (∑ e : Fin 8, combOf (rowsOf a0) a1 (ix2 r e) * expertOf (rowsOf a0) (truncf .bf16 a2 bitsLt_bf16_f32)
      (shapeCast S8x1x4096 a3 shapeCasts_S8x4096_S8x1x4096) (truncf .bf16 a4 bitsLt_bf16_f32)
      (shapeCast S8x1x1024 a5 shapeCasts_S8x1024_S8x1x1024) e r k : EReal)
    = Ref.mixed (F := Ideal) (combOf (rowsOf a0) a1) (Ref.outputs (Ref.gelu (Ref.hidden (rowsOf a0) a2 a3)) a4 a5) (ix2 r k) :=
  (Finset.sum_congr rfl fun e _ => congrArg₂ (· * ·) rfl (expertOf_ref _ _ _ _ _ e r k)).trans (Ref.mixed_eq _ _ r k).symm

include h0 h1 h2 h3 h4 h5 f0 f1 in
/-- The first result is the reference's. -/
theorem out_eq : V5 m (left m) c (Proc.devRef .tc main_v7) = shapeCast S2x2048x1024
    (Ref.mixed (F := Ideal) (combOf (rowsOf a0) a1) (Ref.outputs (Ref.gelu (Ref.hidden (rowsOf a0) a2 a3)) a4 a5))
    shapeCasts_S4096x1024_S2x2048x1024 := by
  obtain ⟨e2, e4, e3, e5⟩ := host1 (V2 m (left m) c)
  rw [arg_V2 m c main_arg2 (by decide) (by decide), h2] at e2
  rw [arg_V2 m c main_arg4 (by decide) (by decide), h4] at e4
  rw [arg_V2 m c main_arg3 (by decide) (by decide), h3] at e3
  rw [arg_V2 m c main_arg5 (by decide) (by decide), h5] at e5
  have hO : V4 m (left m) c (Proc.devRef .tc main_v6)
      = Ref.mixed (F := Ideal) (combOf (rowsOf a0) a1) (Ref.outputs (Ref.gelu (Ref.hidden (rowsOf a0) a2 a3)) a4 a5) := by
    refine (eLeft m c main_v6).symm.trans ((Pipeline.afterRegion_arr (eDat (V3 m (left m)) c) (V3 m (left m) c) winFacts1.arr_inj 6).trans ?_)
    funext y
    obtain ⟨r, k, rfl⟩ : ∃ (r : Fin 4096) (k : Fin 1024), y = ix2 r k := ⟨_, _, eq_ix2 y⟩
    have ht : r.val / 256 < 16 := by omega
    obtain ⟨r', e⟩ : ∃ r', r = rowAt (r.val / 256) ht r' := ⟨⟨r.val % 256, Nat.mod_lt _ (by decide)⟩, Fin.ext (by
      show r.val = 256 * (r.val / 256) + r.val % 256; omega)⟩
    generalize r.val / 256 = i at ht e
    subst e
    exact (eFinal_eq (V3 m (left m)) c _ _ _ _ _ _ (comb_V3 m c a0 a1 h0 h1 f0 f1) (rows_V3 m c a0 h0) e2 e3 e4 e5
      i ht r' k).trans (mixed_ref a0 a1 a2 a3 a4 a5 (rowAt i ht r') k)
  exact (host2 (V4 m (left m) c)).1.trans
    (congrArg (fun z => shapeCast S2x2048x1024 (z : Vec Ideal S4096x1024 .f32) shapeCasts_S4096x1024_S2x2048x1024) hO)

include h0 h1 f0 f1 in
/-- The second result is the reference's. -/
theorem loss_out_eq : V5 m (left m) c (Proc.devRef .tc main_v8) = Ref.loss (F := Ideal) (combOf (rowsOf a0) a1) := by
  have hL := (V4_of m (left m) c main_v1_1 (by decide)).trans ((V3_of m (left m) c main_v1_1 (by decide)).trans
    ((gLeft m c main_v1_1).symm.trans (Pipeline.afterRegion_arr (gDat (V1 m) c) (V1 m c) winFacts0.arr_inj 3)))
  refine (host2 (V4 m (left m) c)).2.trans (funext fun j => ?_)
  refine Eq.trans ?_ (gFinal3_ref (V1 m) c _ _ (rows_V1 m c a0 h0) (gate_V1 m c a1 h1) (scores_real a0 a1 f0 f1) j)
  refine (congrFun (congrArg (fun z => shapeCast S_ (z : Vec Ideal S1x1 .f32) shapeCasts_S1x1_S_) hL) j).trans ?_
  unfold shapeCast
  refine congrArg ((gDat (V1 m) c).arrAt 3 cfg0.N : Vec Ideal S1x1 .f32) (funext fun a => ?_)
  match a with
  | ⟨0, _⟩ => exact Subsingleton.elim (α := Fin 1) _ _
  | ⟨1, _⟩ => exact Subsingleton.elim (α := Fin 1) _ _

end Run

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Init

@[expose] public section

noncomputable section

namespace Cert.Proof

open Idealize.ShloMosaic Idealize.SL.Sem

/-- The kernel's bodies are those of its ideal text. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l
  match l with
  | 0 => rfl
  | 1 => rfl

/-- The kernel's table of bodies and pipelines is that of its ideal text. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- The kernel over bit patterns terminates without fault, leaves its arguments and zeroes its counters. -/
theorem kernel_frame : Cert.quiescent_Kernel (hKernel := Cert.Kernel.Gen.facts) := fun m g _ => by
  rw [defs_eq]
  exact Cert.Moe.frame_main (F := Bits) m g

/-- The kernel over extended reals terminates without fault, leaves its arguments and zeroes its counters. -/
theorem ideal_frame : Cert.quiescent_KernelIdeal (hKernelIdeal := Cert.KernelIdeal.Gen.facts) := fun m g _ =>
  Cert.Moe.frame_main (F := Ideal) m g

/-- The reference terminates without fault and leaves its arguments; it has no semaphore to leave raised. -/
theorem reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run m g)

/-- From memories that agree on the arguments, the tokens and the gate's matrix finite, the kernel and the reference end
    with the same two results. -/
theorem value : Cert.algebraic_KernelIdeal_ReferenceIdeal_pre_finite_gate (hKernelIdeal := Cert.KernelIdeal.Gen.facts)
    (hReferenceIdeal := Cert.ReferenceIdeal.Gen.facts) (hPre_finite_gate := Cert.Moe.Pre.facts) := fun m g m' g' hpre hargs =>
  ⟨fun c => Cert.KernelIdeal.Gen.V5 m (Cert.Moe.left m) c (Proc.devRef .tc Cert.KernelIdeal.main_v7),
    fun c => Cert.KernelIdeal.Gen.V5 m (Cert.Moe.left m) c (Proc.devRef .tc Cert.KernelIdeal.main_v8),
    (θ_run _ _ _).mono (fun _ h c => ⟨h.1 c _ rfl, h.1 c _ rfl,
      (h.1 c _ rfl).trans (Cert.KernelIdeal.Gen.V5_main_arg0 m (Cert.Moe.left m) c),
      (h.1 c _ rfl).trans (Cert.KernelIdeal.Gen.V5_main_arg1 m (Cert.Moe.left m) c),
      (h.1 c _ rfl).trans (Cert.KernelIdeal.Gen.V5_main_arg2 m (Cert.Moe.left m) c),
      (h.1 c _ rfl).trans (Cert.KernelIdeal.Gen.V5_main_arg3 m (Cert.Moe.left m) c),
      (h.1 c _ rfl).trans (Cert.KernelIdeal.Gen.V5_main_arg4 m (Cert.Moe.left m) c),
      (h.1 c _ rfl).trans (Cert.KernelIdeal.Gen.V5_main_arg5 m (Cert.Moe.left m) c)⟩) (Cert.Moe.run_main m g),
    (θ_run _ _ _).mono (fun _ h c => by
      obtain ⟨e0, e1, e2, e3, e4, e5⟩ := hargs c
      obtain ⟨f0, f1⟩ := Cert.Moe.finite_of_pre m hpre c
      refine ⟨(h c).1.trans ?_, (h c).2.1.trans ?_, (h c).2.2⟩
      · rw [Cert.Moe.Ref.out0_eq, e0, e1, e2, e3, e4, e5]
        exact (Cert.Moe.out_eq m c _ _ _ _ _ _ rfl rfl rfl rfl rfl rfl f0 f1).symm
      · rw [Cert.Moe.Ref.out1_eq, e0, e1]
        exact (Cert.Moe.loss_out_eq m c _ _ rfl rfl f0 f1).symm) (Cert.ReferenceIdeal.Value.run m' g')⟩

/-- The certificate's claim. -/
theorem claim : Cert.Claim := ⟨Cert.Kernel.Gen.facts, Cert.KernelIdeal.Gen.facts, Cert.ReferenceIdeal.Gen.facts,
  Cert.Moe.Pre.facts, kernel_frame, ideal_frame, fun m g _ => ideal_frame m g trivial, reference_frame,
  fun m g _ => reference_frame m g trivial, trivial, value⟩

end Cert.Proof

end
